-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_bins [hPre_in_bins : Cert.Pre_in_bins.Facts] (m : (ℓ : Loc Cert.KernelIdeal.nD Cert.KernelIdeal.τ Cert.KernelIdeal.sig) → Buf (Elt Ideal) ℓ) : Prop :=
  ∀ c : Dev Cert.KernelIdeal.nD,
    (Cert.Pre_in_bins.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_bins [hPre_in_bins : Cert.Pre_in_bins.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_bins.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_in_bins [hKernelIdeal : Cert.KernelIdeal.Facts] [hPre_in_bins : Cert.Pre_in_bins.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_bins m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_in_bins [hReferenceIdeal : Cert.ReferenceIdeal.Facts] [hPre_in_bins : Cert.Pre_in_bins.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_bins m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_in_bins [hKernelIdeal : Cert.KernelIdeal.Facts] [hReferenceIdeal : Cert.ReferenceIdeal.Facts] [hPre_in_bins : Cert.Pre_in_bins.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_bins m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_in_bins : Cert.Pre_in_bins.Facts),
    quiescent_Kernel (hKernel := hKernel)
    ∧ quiescent_KernelIdeal (hKernelIdeal := hKernelIdeal)
    ∧ quiescent_KernelIdeal_pre_in_bins (hKernelIdeal := hKernelIdeal) (hPre_in_bins := hPre_in_bins)
    ∧ quiescent_ReferenceIdeal (hReferenceIdeal := hReferenceIdeal)
    ∧ quiescent_ReferenceIdeal_pre_in_bins (hReferenceIdeal := hReferenceIdeal) (hPre_in_bins := hPre_in_bins)
    ∧ preserves_Kernel_KernelIdeal
    ∧ algebraic_KernelIdeal_ReferenceIdeal_pre_in_bins (hKernelIdeal := hKernelIdeal) (hReferenceIdeal := hReferenceIdeal) (hPre_in_bins := hPre_in_bins)
-- ==== Pre_in_bins.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn_round {F : FTy → Type} [FloatOps F] (arg0 : FVec F S33554432 .f32) : FVec F S33554432 .f32 :=
  let v0 : FVec F S33554432 .f32 := Host.roundeven arg0
  v0

def fn {F : FTy → Type} [FloatOps F] (main_arg0 : FVec F S33554432 .f32) : IVec S_ 1 :=
  let main_v0 : FVec F S33554432 .f32 := fn_round (F := F) main_arg0
  let main_cst : FVec F S_ .f32 := constant S_ .f32 0xC2000000#32
  let main_v1 : FVec F S33554432 .f32 := broadcastInDim S33554432 ![] bcast_S_S33554432 main_cst
  let main_v2 : IVec S33554432 1 := cmpf .oge main_v0 main_v1
  let main_v3 : FVec F S33554432 .f32 := fn_round (F := F) main_arg0
  let main_cst_0 : FVec F S_ .f32 := constant S_ .f32 0x41F80000#32
  let main_v4 : FVec F S33554432 .f32 := broadcastInDim S33554432 ![] bcast_S_S33554432 main_cst_0
  let main_v5 : IVec S33554432 1 := cmpf .ole main_v3 main_v4
  let main_v6 : IVec S33554432 1 := andi main_v2 main_v5
  let main_c : IVec S_ 1 := constantI S_ 1 1#1
  let main_v7 : IVec S_ 1 := (fun x v => Host.reduce IntOp.andi x v reducesTo_S33554432_S_d0 h_S_) main_v6 main_c
  main_v7
-- ==== Kernel.lean ====
abbrev S33554432 : Shape := ⟨1, ![33554432]⟩
abbrev S32x1024 : Shape := ⟨2, ![32, 1024]⟩
abbrev S16384 : Shape := ⟨1, ![16384]⟩
abbrev S8192 : Shape := ⟨1, ![8192]⟩
abbrev S_ : Shape := ⟨0, ![]⟩
abbrev S16 : Shape := ⟨1, ![16]⟩
abbrev S1024 : Shape := ⟨1, ![1024]⟩
abbrev S1x1024 : Shape := ⟨2, ![1, 1024]⟩
abbrev S1x1 : Shape := ⟨2, ![1, 1]⟩
abbrev S1024x64 : Shape := ⟨2, ![1024, 64]⟩
abbrev S1x64 : Shape := ⟨2, ![1, 64]⟩
abbrev S1x1x64 : Shape := ⟨3, ![1, 1, 64]⟩
abbrev S1 : Shape := ⟨1, ![1]⟩
abbrev S1x1x1 : Shape := ⟨3, ![1, 1, 1]⟩

abbrev nBuf : Table → Nat
  | .hbm => 4
  | .local .tc .vmem => 2
  | .local .scVector .vmem => 3
  | _ => 0

abbrev bufTy : (tb : Table) → Fin (nBuf tb) → BufTy
  | .hbm, ⟨0, _⟩ => ⟨S33554432, .f32⟩
  | .hbm, ⟨1, _⟩ => ⟨S32x1024, .i32⟩
  | .hbm, ⟨2, _⟩ => ⟨S1x1, .f32⟩
  | .hbm, ⟨3, _⟩ => ⟨S_, .f32⟩
  | .local .tc .vmem, ⟨0, _⟩ => ⟨S32x1024, .i32⟩
  | .local .tc .vmem, ⟨1, _⟩ => ⟨S1x1, .f32⟩
  | .local .scVector .vmem, ⟨0, _⟩ => ⟨S16384, .f32⟩
  | .local .scVector .vmem, ⟨1, _⟩ => ⟨S16384, .f32⟩
  | .local .scVector .vmem, ⟨2, _⟩ => ⟨S8192, .i32⟩
  | _, _ => ⟨S33554432, .f32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => true
  | ⟨4, _⟩ => true
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_arg0_scv : Ref sig .scVector := ⟨.hbm, 0, rfl⟩
abbrev main_v0_scv : Ref sig .scVector := ⟨.hbm, 1, rfl⟩
abbrev cc1_stg0_0 : Ref sig .tc := ⟨.vmem, 0, rfl⟩
abbrev cc1_stg1_0 : Ref sig .tc := ⟨.vmem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem1_0 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c512_i32 : BitVec 32 := 512#32
  let v4 : BitVec 32 := Scalar.addi c0_i32_1 c512_i32
  let c1_i32 : BitVec 32 := 1#32
  ⟨c0_i32_1, v4, c1_i32⟩
def k0_off1 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c16_i32 : BitVec 32 := 16#32
  let v31 : BitVec 32 := Scalar.muli arg9 c16_i32
  let v32 : Index := Scalar.indexCast v31
  ![v32.toNat]
def k0_off2 (i : grid0.Coords) (c0_i32_5 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1048576_i32 : BitVec 32 := 1048576#32
  let v2 : BitVec 32 := Scalar.muli v1 c1048576_i32
  let v23 : BitVec 32 := Scalar.addi v2 c0_i32_5
  ![v23.toNat]
@[reducible] def k0_t2_loop : Scf.Loop 32 :=
  let c0_i32_7 : BitVec 32 := 0#32
  let c32_i32 : BitVec 32 := 32#32
  let v29 : BitVec 32 := Scalar.addi c0_i32_7 c32_i32
  let c1_i32_8 : BitVec 32 := 1#32
  ⟨c0_i32_7, v29, c1_i32_8⟩
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1048576_i32 : BitVec 32 := 1048576#32
  let v2 : BitVec 32 := Scalar.muli v1 c1048576_i32
  ![v2.toNat]
@[reducible] def k0_t3_loop : Scf.Loop 32 :=
  let c0_i32_17 : BitVec 32 := 0#32
  let c128_i32 : BitVec 32 := 128#32
  let v35 : BitVec 32 := Scalar.addi c0_i32_17 c128_i32
  let c1_i32_18 : BitVec 32 := 1#32
  ⟨c0_i32_17, v35, c1_i32_18⟩
def k0_off4 (k0_t3 : Fin k0_t3_loop.trips) : Fin 1 → Nat :=
  let c0_i32_17 : BitVec 32 := 0#32
  let c1_i32_18 : BitVec 32 := 1#32
  let arg10 : BitVec 32 := Scf.iv c0_i32_17 c1_i32_18 k0_t3
  let c8_i32 : BitVec 32 := 8#32
  let v48 : BitVec 32 := Scalar.muli arg10 c8_i32
  let c0_i32_32 : BitVec 32 := 0#32
  let v49 : BitVec 32 := Scalar.addi v48 c0_i32_32
  let c16_i32 : BitVec 32 := 16#32
  let v50 : BitVec 32 := Scalar.muli v49 c16_i32
  let v51 : Index := Scalar.indexCast v50
  ![v51.toNat]

def k0_chk1 (v61 : IVec S16 32) : Prop :=
  (∀ a x, ((![v61] : Fin 1 → IVec S16 32) a x).toNat < S8192.size a)
theorem k0_idx1_inb : ∀ (v61 : IVec S16 32) (k0_hw1 : k0_chk1 v61), ∀ a x, ((![v61] : Fin 1 → IVec S16 32) a x).toNat < S8192.size a := fun v61 k0_hw1 => k0_hw1
def k0_off5 (k0_t3 : Fin k0_t3_loop.trips) : Fin 1 → Nat :=
  let c0_i32_17 : BitVec 32 := 0#32
  let c1_i32_18 : BitVec 32 := 1#32
  let arg10 : BitVec 32 := Scf.iv c0_i32_17 c1_i32_18 k0_t3
  let c8_i32_33 : BitVec 32 := 8#32
  let v62 : BitVec 32 := Scalar.muli arg10 c8_i32_33
  let c1_i32_34 : BitVec 32 := 1#32
  let v63 : BitVec 32 := Scalar.addi v62 c1_i32_34
  let c16_i32_35 : BitVec 32 := 16#32
  let v64 : BitVec 32 := Scalar.muli v63 c16_i32_35
  let v65 : Index := Scalar.indexCast v64
  ![v65.toNat]

def k0_chk2 (v75 : IVec S16 32) : Prop :=
  (∀ a x, ((![v75] : Fin 1 → IVec S16 32) a x).toNat < S8192.size a)
theorem k0_idx2_inb : ∀ (v75 : IVec S16 32) (k0_hw2 : k0_chk2 v75), ∀ a x, ((![v75] : Fin 1 → IVec S16 32) a x).toNat < S8192.size a := fun v75 k0_hw2 => k0_hw2
def k0_off6 (k0_t3 : Fin k0_t3_loop.trips) : Fin 1 → Nat :=
  let c0_i32_17 : BitVec 32 := 0#32
  let c1_i32_18 : BitVec 32 := 1#32
  let arg10 : BitVec 32 := Scf.iv c0_i32_17 c1_i32_18 k0_t3
  let c8_i32_39 : BitVec 32 := 8#32
  let v76 : BitVec 32 := Scalar.muli arg10 c8_i32_39
  let c2_i32_40 : BitVec 32 := 2#32
  let v77 : BitVec 32 := Scalar.addi v76 c2_i32_40
  let c16_i32_41 : BitVec 32 := 16#32
  let v78 : BitVec 32 := Scalar.muli v77 c16_i32_41
  let v79 : Index := Scalar.indexCast v78
  ![v79.toNat]

def k0_chk3 (v89 : IVec S16 32) : Prop :=
  (∀ a x, ((![v89] : Fin 1 → IVec S16 32) a x).toNat < S8192.size a)
theorem k0_idx3_inb : ∀ (v89 : IVec S16 32) (k0_hw3 : k0_chk3 v89), ∀ a x, ((![v89] : Fin 1 → IVec S16 32) a x).toNat < S8192.size a := fun v89 k0_hw3 => k0_hw3
def k0_off7 (k0_t3 : Fin k0_t3_loop.trips) : Fin 1 → Nat :=
  let c0_i32_17 : BitVec 32 := 0#32
  let c1_i32_18 : BitVec 32 := 1#32
  let arg10 : BitVec 32 := Scf.iv c0_i32_17 c1_i32_18 k0_t3
  let c8_i32_45 : BitVec 32 := 8#32
  let v90 : BitVec 32 := Scalar.muli arg10 c8_i32_45
  let c3_i32 : BitVec 32 := 3#32
  let v91 : BitVec 32 := Scalar.addi v90 c3_i32
  let c16_i32_46 : BitVec 32 := 16#32
  let v92 : BitVec 32 := Scalar.muli v91 c16_i32_46
  let v93 : Index := Scalar.indexCast v92
  ![v93.toNat]

def k0_chk4 (v103 : IVec S16 32) : Prop :=
  (∀ a x, ((![v103] : Fin 1 → IVec S16 32) a x).toNat < S8192.size a)
theorem k0_idx4_inb : ∀ (v103 : IVec S16 32) (k0_hw4 : k0_chk4 v103), ∀ a x, ((![v103] : Fin 1 → IVec S16 32) a x).toNat < S8192.size a := fun v103 k0_hw4 => k0_hw4
def k0_off8 (k0_t3 : Fin k0_t3_loop.trips) : Fin 1 → Nat :=
  let c0_i32_17 : BitVec 32 := 0#32
  let c1_i32_18 : BitVec 32 := 1#32
  let arg10 : BitVec 32 := Scf.iv c0_i32_17 c1_i32_18 k0_t3
  let c8_i32_50 : BitVec 32 := 8#32
  let v104 : BitVec 32 := Scalar.muli arg10 c8_i32_50
  let c4_i32_51 : BitVec 32 := 4#32
  let v105 : BitVec 32 := Scalar.addi v104 c4_i32_51
  let c16_i32_52 : BitVec 32 := 16#32
  let v106 : BitVec 32 := Scalar.muli v105 c16_i32_52
  let v107 : Index := Scalar.indexCast v106
  ![v107.toNat]

def k0_chk5 (v117 : IVec S16 32) : Prop :=
  (∀ a x, ((![v117] : Fin 1 → IVec S16 32) a x).toNat < S8192.size a)
theorem k0_idx5_inb : ∀ (v117 : IVec S16 32) (k0_hw5 : k0_chk5 v117), ∀ a x, ((![v117] : Fin 1 → IVec S16 32) a x).toNat < S8192.size a := fun v117 k0_hw5 => k0_hw5
def k0_off9 (k0_t3 : Fin k0_t3_loop.trips) : Fin 1 → Nat :=
  let c0_i32_17 : BitVec 32 := 0#32
  let c1_i32_18 : BitVec 32 := 1#32
  let arg10 : BitVec 32 := Scf.iv c0_i32_17 c1_i32_18 k0_t3
  let c8_i32_56 : BitVec 32 := 8#32
  let v118 : BitVec 32 := Scalar.muli arg10 c8_i32_56
  let c5_i32 : BitVec 32 := 5#32
  let v119 : BitVec 32 := Scalar.addi v118 c5_i32
  let c16_i32_57 : BitVec 32 := 16#32
  let v120 : BitVec 32 := Scalar.muli v119 c16_i32_57
  let v121 : Index := Scalar.indexCast v120
  ![v121.toNat]

def k0_chk6 (v131 : IVec S16 32) : Prop :=
  (∀ a x, ((![v131] : Fin 1 → IVec S16 32) a x).toNat < S8192.size a)
theorem k0_idx6_inb : ∀ (v131 : IVec S16 32) (k0_hw6 : k0_chk6 v131), ∀ a x, ((![v131] : Fin 1 → IVec S16 32) a x).toNat < S8192.size a := fun v131 k0_hw6 => k0_hw6
def k0_off10 (k0_t3 : Fin k0_t3_loop.trips) : Fin 1 → Nat :=
  let c0_i32_17 : BitVec 32 := 0#32
  let c1_i32_18 : BitVec 32 := 1#32
  let arg10 : BitVec 32 := Scf.iv c0_i32_17 c1_i32_18 k0_t3
  let c8_i32_61 : BitVec 32 := 8#32
  let v132 : BitVec 32 := Scalar.muli arg10 c8_i32_61
  let c6_i32 : BitVec 32 := 6#32
  let v133 : BitVec 32 := Scalar.addi v132 c6_i32
  let c16_i32_62 : BitVec 32 := 16#32
  let v134 : BitVec 32 := Scalar.muli v133 c16_i32_62
  let v135 : Index := Scalar.indexCast v134
  ![v135.toNat]

def k0_chk7 (v145 : IVec S16 32) : Prop :=
  (∀ a x, ((![v145] : Fin 1 → IVec S16 32) a x).toNat < S8192.size a)
theorem k0_idx7_inb : ∀ (v145 : IVec S16 32) (k0_hw7 : k0_chk7 v145), ∀ a x, ((![v145] : Fin 1 → IVec S16 32) a x).toNat < S8192.size a := fun v145 k0_hw7 => k0_hw7
def k0_off11 (k0_t3 : Fin k0_t3_loop.trips) : Fin 1 → Nat :=
  let c0_i32_17 : BitVec 32 := 0#32
  let c1_i32_18 : BitVec 32 := 1#32
  let arg10 : BitVec 32 := Scf.iv c0_i32_17 c1_i32_18 k0_t3
  let c8_i32_66 : BitVec 32 := 8#32
  let v146 : BitVec 32 := Scalar.muli arg10 c8_i32_66
  let c7_i32 : BitVec 32 := 7#32
  let v147 : BitVec 32 := Scalar.addi v146 c7_i32
  let c16_i32_67 : BitVec 32 := 16#32
  let v148 : BitVec 32 := Scalar.muli v147 c16_i32_67
  let v149 : Index := Scalar.indexCast v148
  ![v149.toNat]

def k0_chk8 (v159 : IVec S16 32) : Prop :=
  (∀ a x, ((![v159] : Fin 1 → IVec S16 32) a x).toNat < S8192.size a)
theorem k0_idx8_inb : ∀ (v159 : IVec S16 32) (k0_hw8 : k0_chk8 v159), ∀ a x, ((![v159] : Fin 1 → IVec S16 32) a x).toNat < S8192.size a := fun v159 k0_hw8 => k0_hw8
def k0_cond1 (k0_t2 : Fin k0_t2_loop.trips) : BitVec 1 :=
  let c0_i32_7 : BitVec 32 := 0#32
  let c1_i32_8 : BitVec 32 := 1#32
  let arg9 : BitVec 32 := Scf.iv c0_i32_7 c1_i32_8 k0_t2
  let c2_i32_14 : BitVec 32 := 2#32
  let v31 : BitVec 32 := Scalar.muli arg9 c2_i32_14
  let c0_i32_15 : BitVec 32 := 0#32
  let v32 : BitVec 32 := Scalar.addi v31 c0_i32_15
  let c2_i32_20 : BitVec 32 := 2#32
  let v36 : BitVec 32 := Scalar.addi v32 c2_i32_20
  let c64_i32_21 : BitVec 32 := 64#32
  let v37 : BitVec 1 := Scalar.cmpi .slt v36 c64_i32_21
  let v38 : BitVec 32 := Scalar.extui v37
  let c0_i32_22 : BitVec 32 := 0#32
  let v39 : BitVec 1 := Scalar.cmpi .ne v38 c0_i32_22
  v39

def k0_off12 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1048576_i32 : BitVec 32 := 1048576#32
  let v2 : BitVec 32 := Scalar.muli v1 c1048576_i32
  let c0_i32_7 : BitVec 32 := 0#32
  let c1_i32_8 : BitVec 32 := 1#32
  let arg9 : BitVec 32 := Scf.iv c0_i32_7 c1_i32_8 k0_t2
  let c2_i32_14 : BitVec 32 := 2#32
  let v31 : BitVec 32 := Scalar.muli arg9 c2_i32_14
  let c0_i32_15 : BitVec 32 := 0#32
  let v32 : BitVec 32 := Scalar.addi v31 c0_i32_15
  let c2_i32_32 : BitVec 32 := 2#32
  let v48 : BitVec 32 := Scalar.addi v32 c2_i32_32
  let c16384_i32_33 : BitVec 32 := 16384#32
  let v49 : BitVec 32 := Scalar.muli v48 c16384_i32_33
  let v50 : BitVec 32 := Scalar.addi v2 v49
  ![v50.toNat]
@[reducible] def k0_t4_loop : Scf.Loop 32 :=
  let c0_i32_25 : BitVec 32 := 0#32
  let c128_i32_26 : BitVec 32 := 128#32
  let v43 : BitVec 32 := Scalar.addi c0_i32_25 c128_i32_26
  let c1_i32_27 : BitVec 32 := 1#32
  ⟨c0_i32_25, v43, c1_i32_27⟩
def k0_off13 (k0_t4 : Fin k0_t4_loop.trips) : Fin 1 → Nat :=
  let c0_i32_25 : BitVec 32 := 0#32
  let c1_i32_27 : BitVec 32 := 1#32
  let arg10 : BitVec 32 := Scf.iv c0_i32_25 c1_i32_27 k0_t4
  let c8_i32 : BitVec 32 := 8#32
  let v48 : BitVec 32 := Scalar.muli arg10 c8_i32
  let c0_i32_32 : BitVec 32 := 0#32
  let v49 : BitVec 32 := Scalar.addi v48 c0_i32_32
  let c16_i32 : BitVec 32 := 16#32
  let v50 : BitVec 32 := Scalar.muli v49 c16_i32
  let v51 : Index := Scalar.indexCast v50
  ![v51.toNat]

def k0_chk9 (v61 : IVec S16 32) : Prop :=
  (∀ a x, ((![v61] : Fin 1 → IVec S16 32) a x).toNat < S8192.size a)
theorem k0_idx9_inb : ∀ (v61 : IVec S16 32) (k0_hw9 : k0_chk9 v61), ∀ a x, ((![v61] : Fin 1 → IVec S16 32) a x).toNat < S8192.size a := fun v61 k0_hw9 => k0_hw9
def k0_off14 (k0_t4 : Fin k0_t4_loop.trips) : Fin 1 → Nat :=
  let c0_i32_25 : BitVec 32 := 0#32
  let c1_i32_27 : BitVec 32 := 1#32
  let arg10 : BitVec 32 := Scf.iv c0_i32_25 c1_i32_27 k0_t4
  let c8_i32_33 : BitVec 32 := 8#32
  let v62 : BitVec 32 := Scalar.muli arg10 c8_i32_33
  let c1_i32_34 : BitVec 32 := 1#32
  let v63 : BitVec 32 := Scalar.addi v62 c1_i32_34
  let c16_i32_35 : BitVec 32 := 16#32
  let v64 : BitVec 32 := Scalar.muli v63 c16_i32_35
  let v65 : Index := Scalar.indexCast v64
  ![v65.toNat]

def k0_chk10 (v75 : IVec S16 32) : Prop :=
  (∀ a x, ((![v75] : Fin 1 → IVec S16 32) a x).toNat < S8192.size a)
theorem k0_idx10_inb : ∀ (v75 : IVec S16 32) (k0_hw10 : k0_chk10 v75), ∀ a x, ((![v75] : Fin 1 → IVec S16 32) a x).toNat < S8192.size a := fun v75 k0_hw10 => k0_hw10
def k0_off15 (k0_t4 : Fin k0_t4_loop.trips) : Fin 1 → Nat :=
  let c0_i32_25 : BitVec 32 := 0#32
  let c1_i32_27 : BitVec 32 := 1#32
  let arg10 : BitVec 32 := Scf.iv c0_i32_25 c1_i32_27 k0_t4
  let c8_i32_39 : BitVec 32 := 8#32
  let v76 : BitVec 32 := Scalar.muli arg10 c8_i32_39
  let c2_i32_40 : BitVec 32 := 2#32
  let v77 : BitVec 32 := Scalar.addi v76 c2_i32_40
  let c16_i32_41 : BitVec 32 := 16#32
  let v78 : BitVec 32 := Scalar.muli v77 c16_i32_41
  let v79 : Index := Scalar.indexCast v78
  ![v79.toNat]

def k0_chk11 (v89 : IVec S16 32) : Prop :=
  (∀ a x, ((![v89] : Fin 1 → IVec S16 32) a x).toNat < S8192.size a)
theorem k0_idx11_inb : ∀ (v89 : IVec S16 32) (k0_hw11 : k0_chk11 v89), ∀ a x, ((![v89] : Fin 1 → IVec S16 32) a x).toNat < S8192.size a := fun v89 k0_hw11 => k0_hw11
def k0_off16 (k0_t4 : Fin k0_t4_loop.trips) : Fin 1 → Nat :=
  let c0_i32_25 : BitVec 32 := 0#32
  let c1_i32_27 : BitVec 32 := 1#32
  let arg10 : BitVec 32 := Scf.iv c0_i32_25 c1_i32_27 k0_t4
  let c8_i32_45 : BitVec 32 := 8#32
  let v90 : BitVec 32 := Scalar.muli arg10 c8_i32_45
  let c3_i32 : BitVec 32 := 3#32
  let v91 : BitVec 32 := Scalar.addi v90 c3_i32
  let c16_i32_46 : BitVec 32 := 16#32
  let v92 : BitVec 32 := Scalar.muli v91 c16_i32_46
  let v93 : Index := Scalar.indexCast v92
  ![v93.toNat]

def k0_chk12 (v103 : IVec S16 32) : Prop :=
  (∀ a x, ((![v103] : Fin 1 → IVec S16 32) a x).toNat < S8192.size a)
theorem k0_idx12_inb : ∀ (v103 : IVec S16 32) (k0_hw12 : k0_chk12 v103), ∀ a x, ((![v103] : Fin 1 → IVec S16 32) a x).toNat < S8192.size a := fun v103 k0_hw12 => k0_hw12
def k0_off17 (k0_t4 : Fin k0_t4_loop.trips) : Fin 1 → Nat :=
  let c0_i32_25 : BitVec 32 := 0#32
  let c1_i32_27 : BitVec 32 := 1#32
  let arg10 : BitVec 32 := Scf.iv c0_i32_25 c1_i32_27 k0_t4
  let c8_i32_50 : BitVec 32 := 8#32
  let v104 : BitVec 32 := Scalar.muli arg10 c8_i32_50
  let c4_i32_51 : BitVec 32 := 4#32
  let v105 : BitVec 32 := Scalar.addi v104 c4_i32_51
  let c16_i32_52 : BitVec 32 := 16#32
  let v106 : BitVec 32 := Scalar.muli v105 c16_i32_52
  let v107 : Index := Scalar.indexCast v106
  ![v107.toNat]

def k0_chk13 (v117 : IVec S16 32) : Prop :=
  (∀ a x, ((![v117] : Fin 1 → IVec S16 32) a x).toNat < S8192.size a)
theorem k0_idx13_inb : ∀ (v117 : IVec S16 32) (k0_hw13 : k0_chk13 v117), ∀ a x, ((![v117] : Fin 1 → IVec S16 32) a x).toNat < S8192.size a := fun v117 k0_hw13 => k0_hw13
def k0_off18 (k0_t4 : Fin k0_t4_loop.trips) : Fin 1 → Nat :=
  let c0_i32_25 : BitVec 32 := 0#32
  let c1_i32_27 : BitVec 32 := 1#32
  let arg10 : BitVec 32 := Scf.iv c0_i32_25 c1_i32_27 k0_t4
  let c8_i32_56 : BitVec 32 := 8#32
  let v118 : BitVec 32 := Scalar.muli arg10 c8_i32_56
  let c5_i32 : BitVec 32 := 5#32
  let v119 : BitVec 32 := Scalar.addi v118 c5_i32
  let c16_i32_57 : BitVec 32 := 16#32
  let v120 : BitVec 32 := Scalar.muli v119 c16_i32_57
  let v121 : Index := Scalar.indexCast v120
  ![v121.toNat]

def k0_chk14 (v131 : IVec S16 32) : Prop :=
  (∀ a x, ((![v131] : Fin 1 → IVec S16 32) a x).toNat < S8192.size a)
theorem k0_idx14_inb : ∀ (v131 : IVec S16 32) (k0_hw14 : k0_chk14 v131), ∀ a x, ((![v131] : Fin 1 → IVec S16 32) a x).toNat < S8192.size a := fun v131 k0_hw14 => k0_hw14
def k0_off19 (k0_t4 : Fin k0_t4_loop.trips) : Fin 1 → Nat :=
  let c0_i32_25 : BitVec 32 := 0#32
  let c1_i32_27 : BitVec 32 := 1#32
  let arg10 : BitVec 32 := Scf.iv c0_i32_25 c1_i32_27 k0_t4
  let c8_i32_61 : BitVec 32 := 8#32
  let v132 : BitVec 32 := Scalar.muli arg10 c8_i32_61
  let c6_i32 : BitVec 32 := 6#32
  let v133 : BitVec 32 := Scalar.addi v132 c6_i32
  let c16_i32_62 : BitVec 32 := 16#32
  let v134 : BitVec 32 := Scalar.muli v133 c16_i32_62
  let v135 : Index := Scalar.indexCast v134
  ![v135.toNat]

def k0_chk15 (v145 : IVec S16 32) : Prop :=
  (∀ a x, ((![v145] : Fin 1 → IVec S16 32) a x).toNat < S8192.size a)
theorem k0_idx15_inb : ∀ (v145 : IVec S16 32) (k0_hw15 : k0_chk15 v145), ∀ a x, ((![v145] : Fin 1 → IVec S16 32) a x).toNat < S8192.size a := fun v145 k0_hw15 => k0_hw15
def k0_off20 (k0_t4 : Fin k0_t4_loop.trips) : Fin 1 → Nat :=
  let c0_i32_25 : BitVec 32 := 0#32
  let c1_i32_27 : BitVec 32 := 1#32
  let arg10 : BitVec 32 := Scf.iv c0_i32_25 c1_i32_27 k0_t4
  let c8_i32_66 : BitVec 32 := 8#32
  let v146 : BitVec 32 := Scalar.muli arg10 c8_i32_66
  let c7_i32 : BitVec 32 := 7#32
  let v147 : BitVec 32 := Scalar.addi v146 c7_i32
  let c16_i32_67 : BitVec 32 := 16#32
  let v148 : BitVec 32 := Scalar.muli v147 c16_i32_67
  let v149 : Index := Scalar.indexCast v148
  ![v149.toNat]

def k0_chk16 (v159 : IVec S16 32) : Prop :=
  (∀ a x, ((![v159] : Fin 1 → IVec S16 32) a x).toNat < S8192.size a)
theorem k0_idx16_inb : ∀ (v159 : IVec S16 32) (k0_hw16 : k0_chk16 v159), ∀ a x, ((![v159] : Fin 1 → IVec S16 32) a x).toNat < S8192.size a := fun v159 k0_hw16 => k0_hw16
def k0_cond2 (k0_t2 : Fin k0_t2_loop.trips) : BitVec 1 :=
  let c0_i32_7 : BitVec 32 := 0#32
  let c1_i32_8 : BitVec 32 := 1#32
  let arg9 : BitVec 32 := Scf.iv c0_i32_7 c1_i32_8 k0_t2
  let c2_i32_14 : BitVec 32 := 2#32
  let v31 : BitVec 32 := Scalar.muli arg9 c2_i32_14
  let c1_i32_23 : BitVec 32 := 1#32
  let v40 : BitVec 32 := Scalar.addi v31 c1_i32_23
  let c2_i32_29 : BitVec 32 := 2#32
  let v44 : BitVec 32 := Scalar.addi v40 c2_i32_29
  let c64_i32_30 : BitVec 32 := 64#32
  let v45 : BitVec 1 := Scalar.cmpi .slt v44 c64_i32_30
  let v46 : BitVec 32 := Scalar.extui v45
  let c0_i32_31 : BitVec 32 := 0#32
  let v47 : BitVec 1 := Scalar.cmpi .ne v46 c0_i32_31
  v47

def k0_off21 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1048576_i32 : BitVec 32 := 1048576#32
  let v2 : BitVec 32 := Scalar.muli v1 c1048576_i32
  let c0_i32_7 : BitVec 32 := 0#32
  let c1_i32_8 : BitVec 32 := 1#32
  let arg9 : BitVec 32 := Scf.iv c0_i32_7 c1_i32_8 k0_t2
  let c2_i32_14 : BitVec 32 := 2#32
  let v31 : BitVec 32 := Scalar.muli arg9 c2_i32_14
  let c1_i32_23 : BitVec 32 := 1#32
  let v40 : BitVec 32 := Scalar.addi v31 c1_i32_23
  let c2_i32_32 : BitVec 32 := 2#32
  let v48 : BitVec 32 := Scalar.addi v40 c2_i32_32
  let c16384_i32_33 : BitVec 32 := 16384#32
  let v49 : BitVec 32 := Scalar.muli v48 c16384_i32_33
  let v50 : BitVec 32 := Scalar.addi v2 v49
  ![v50.toNat]
@[reducible] def k0_t5_loop : Scf.Loop 32 :=
  let c0_i32_11 : BitVec 32 := 0#32
  let c64_i32 : BitVec 32 := 64#32
  let v30 : BitVec 32 := Scalar.addi c0_i32_11 c64_i32
  let c1_i32_12 : BitVec 32 := 1#32
  ⟨c0_i32_11, v30, c1_i32_12⟩
def k0_off22 (k0_t5 : Fin k0_t5_loop.trips) : Fin 1 → Nat :=
  let c0_i32_11 : BitVec 32 := 0#32
  let c1_i32_12 : BitVec 32 := 1#32
  let arg9 : BitVec 32 := Scf.iv c0_i32_11 c1_i32_12 k0_t5
  let c16_i32 : BitVec 32 := 16#32
  let v31 : BitVec 32 := Scalar.muli arg9 c16_i32
  let v32 : Index := Scalar.indexCast v31
  ![v32.toNat]
def k0_off23 (k0_t5 : Fin k0_t5_loop.trips) (c1024_i32_15 : BitVec 32) : Fin 1 → Nat :=
  let c0_i32_11 : BitVec 32 := 0#32
  let c1_i32_12 : BitVec 32 := 1#32
  let arg9 : BitVec 32 := Scf.iv c0_i32_11 c1_i32_12 k0_t5
  let c16_i32_14 : BitVec 32 := 16#32
  let v34 : BitVec 32 := Scalar.muli arg9 c16_i32_14
  let v35 : BitVec 32 := Scalar.addi c1024_i32_15 v34
  let v36 : Index := Scalar.indexCast v35
  ![v36.toNat]
def k0_off24 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_15_r0 : BitVec 32 := 0#32
  ![v1.toNat, 0]
abbrev grid1 : Pipeline.Grid := .none

abbrev stage1_0 : Fin 1 → Memref sig .tc .vmem S32x1024 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S33554432 : Shape := ⟨1, ![33554432]⟩
abbrev S_ : Shape := ⟨0, ![]⟩
abbrev S2048 : Shape := ⟨1, ![2048]⟩
abbrev S33554432x1 : Shape := ⟨2, ![33554432, 1]⟩

abbrev nBuf : Space → Nat
  | .hbm => 52
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S33554432, .i32⟩
  | .hbm, ⟨3, _⟩ => ⟨S_, .i32⟩
  | .hbm, ⟨4, _⟩ => ⟨S33554432, .i32⟩
  | .hbm, ⟨5, _⟩ => ⟨S33554432, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S33554432, .i32⟩
  | .hbm, ⟨10, _⟩ => ⟨S33554432, .i32⟩
  | .hbm, ⟨11, _⟩ => ⟨S_, .i32⟩
  | .hbm, ⟨12, _⟩ => ⟨S33554432, .i32⟩
  | .hbm, ⟨13, _⟩ => ⟨S33554432, .i32⟩
  | .hbm, ⟨14, _⟩ => ⟨S_, .i32⟩
  | .hbm, ⟨15, _⟩ => ⟨S2048, .i32⟩
  | .hbm, ⟨16, _⟩ => ⟨S_, .i32⟩
  | .hbm, ⟨17, _⟩ => ⟨S_, .i32⟩
  | .hbm, ⟨18, _⟩ => ⟨S33554432, .i32⟩
  | .hbm, ⟨19, _⟩ => ⟨S33554432, .i32⟩
  | .hbm, ⟨20, _⟩ => ⟨S_, .i32⟩
  | .hbm, ⟨21, _⟩ => ⟨S33554432, .i32⟩
  | .hbm, ⟨22, _⟩ => ⟨S33554432, .i1⟩
  | .hbm, ⟨23, _⟩ => ⟨S_, .i32⟩
  | .hbm, ⟨24, _⟩ => ⟨S33554432, .i32⟩
  | .hbm, ⟨25, _⟩ => ⟨S33554432, .i32⟩
  | .hbm, ⟨26, _⟩ => ⟨S33554432, .i32⟩
  | .hbm, ⟨27, _⟩ => ⟨S33554432x1, .i32⟩
  | .hbm, ⟨28, _⟩ => ⟨S_, .i32⟩
  | .hbm, ⟨29, _⟩ => ⟨S33554432, .i32⟩
  | .hbm, ⟨30, _⟩ => ⟨S2048, .i32⟩
  | .hbm, ⟨31, _⟩ => ⟨S_, .i32⟩
  | .hbm, ⟨32, _⟩ => ⟨S_, .i32⟩
  | .hbm, ⟨33, _⟩ => ⟨S_, .f32⟩
  | .hbm, ⟨34, _⟩ => ⟨S2048, .f32⟩
  | .hbm, ⟨35, _⟩ => ⟨S2048, .f32⟩
  | .hbm, ⟨36, _⟩ => ⟨S2048, .f32⟩
  | .hbm, ⟨37, _⟩ => ⟨S_, .f32⟩
  | .hbm, ⟨38, _⟩ => ⟨S2048, .f32⟩
  | .hbm, ⟨39, _⟩ => ⟨S2048, .i1⟩
  | .hbm, ⟨40, _⟩ => ⟨S_, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048, .f32⟩
  | .hbm, ⟨45, _⟩ => ⟨S_, .f32⟩
  | .hbm, ⟨46, _⟩ => ⟨S2048, .f32⟩
  | .hbm, ⟨47, _⟩ => ⟨S2048, .f32⟩
  | .hbm, ⟨48, _⟩ => ⟨S2048, .f32⟩
  | .hbm, ⟨49, _⟩ => ⟨S_, .f32⟩
  | .hbm, ⟨50, _⟩ => ⟨S_, .f32⟩
  | .hbm, ⟨51, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_c_0 : Ref sig .tc := ⟨.hbm, 6, rfl⟩
abbrev main_c_1 : Ref sig .tc := ⟨.hbm, 7, rfl⟩
abbrev main_call1_v0 : Ref sig .tc := ⟨.hbm, 8, rfl⟩
abbrev main_call1_v1 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_v4 : Ref sig .tc := ⟨.hbm, 13, rfl⟩
abbrev main_c_2 : Ref sig .tc := ⟨.hbm, 14, rfl⟩
abbrev main_v5 : Ref sig .tc := ⟨.hbm, 15, rfl⟩
abbrev main_c_3 : Ref sig .tc := ⟨.hbm, 16, rfl⟩
abbrev main_call2_v0 : Ref sig .tc := ⟨.hbm, 17, rfl⟩
abbrev main_call2_v1 : Ref sig .tc := ⟨.hbm, 18, rfl⟩
abbrev main_v6 : Ref sig .tc := ⟨.hbm, 19, rfl⟩
abbrev main_c_4 : Ref sig .tc := ⟨.hbm, 20, rfl⟩
abbrev main_v7 : Ref sig .tc := ⟨.hbm, 21, rfl⟩
abbrev main_v8 : Ref sig .tc := ⟨.hbm, 22, rfl⟩
abbrev main_c_5 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_6 : Ref sig .tc := ⟨.hbm, 28, rfl⟩
abbrev main_v13 : Ref sig .tc := ⟨.hbm, 29, rfl⟩
abbrev main_v14 : Ref sig .tc := ⟨.hbm, 30, rfl⟩
abbrev main_c_7 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst : Ref sig .tc := ⟨.hbm, 37, rfl⟩
abbrev main_v20 : Ref sig .tc := ⟨.hbm, 38, rfl⟩
abbrev main_v21 : Ref sig .tc := ⟨.hbm, 39, rfl⟩
abbrev main_cst_8 : Ref sig .tc := ⟨.hbm, 40, rfl⟩
abbrev main_call3_v0 : Ref sig .tc := ⟨.hbm, 41, rfl⟩
abbrev main_call3_v1 : Ref sig .tc := ⟨.hbm, 42, rfl⟩
abbrev main_v22 : Ref sig .tc := ⟨.hbm, 43, rfl⟩
abbrev main_v23 : Ref sig .tc := ⟨.hbm, 44, rfl⟩
abbrev main_cst_9 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_10 : Ref sig .tc := ⟨.hbm, 49, rfl⟩
abbrev main_v27 : Ref sig .tc := ⟨.hbm, 50, rfl⟩
abbrev main_v28 : Ref sig .tc := ⟨.hbm, 51, rfl⟩

abbrev nD : Nat := 1
abbrev τ : Topo := Topo.v7x

variable {F : FTy → Type} [FloatOps F]
-- ==== Proof.Hist.lean ====
/-
  The histogram as plain mathematics: which word of the tile's histogram an element is counted in, the histogram
  after the first `n` elements, and what one scatter-add of sixteen lanes does to it.
-/
module

public import proofs.«01_k».proof.Proof.Gen.KernelIdeal
public import proofs.«01_k».proof.Proof.Gen.KernelIdeal.Skeleton

@[expose] public section

noncomputable section

namespace Cert.Proof.K

open Cert.KernelIdeal Cert.KernelIdeal.Gen
open Idealize.ShloMosaic

variable {F : FTy → Type}

/-! ## Counting keys -/

/-- How many of the first `n` elements have key `p`. -/
def cnt (key : ℕ → ℕ) (n p : ℕ) : ℕ := ((Finset.range n).filter fun j => key j = p).card

theorem cnt_zero (key : ℕ → ℕ) (p : ℕ) : cnt key 0 p = 0 := by simp [cnt]

theorem cnt_succ (key : ℕ → ℕ) (n p : ℕ) : cnt key (n + 1) p = cnt key n p + if key n = p then 1 else 0 := by
  unfold cnt
  rw [Finset.range_add_one, Finset.filter_insert]
  split
  · rw [Finset.card_insert_of_notMem (by simp)]
  · rfl

/-- The histogram of the first `n` elements, as the contents of the tile's histogram buffer. -/
def hstV (key : ℕ → ℕ) (n : ℕ) : Vec F S8192 .i32 := fun p => BitVec.ofNat 32 (cnt key n (p 0).val)

theorem hstV_zero (key : ℕ → ℕ) : hstV (F := F) key 0 = fun _ => (0#32 : BitVec 32) := by
  funext p; simp [hstV, cnt_zero]

/-- One lane added: the histogram of one more element. -/
theorem hstV_step [FloatOps F] (key : ℕ → ℕ) (n : ℕ) (i : S8192.Idx) (hi : (i 0).val = key n) :
    (fun j : S8192.Idx => if (∀ a, (j a).val = (i a).val)
      then Elt.idxAdd (F := F) .i32 (hstV (F := F) key n i) (1#32 : BitVec 32) else hstV (F := F) key n j)
      = hstV (F := F) key (n + 1) := by
  funext j
  have hall : (∀ a, (j a).val = (i a).val) ↔ (j 0).val = (i 0).val :=
    ⟨fun h => h 0, fun h a => by rw [Fin.eq_zero a]; exact h⟩
  by_cases h : (j 0).val = (i 0).val
  · rw [if_pos (hall.2 h)]
    show BitVec.ofNat 32 (cnt key n (i 0).val) + 1#32 = BitVec.ofNat 32 (cnt key (n + 1) (j 0).val)
    rw [cnt_succ, h, hi, if_pos rfl, BitVec.ofNat_add]
  · rw [if_neg (fun hc => h (hall.1 hc))]
    show BitVec.ofNat 32 (cnt key n (j 0).val) = BitVec.ofNat 32 (cnt key (n + 1) (j 0).val)
    rw [cnt_succ, if_neg (by rw [← hi]; exact fun hc => h hc.symm), add_zero]

/-- One step of a fold that scatters lane after lane: if each lane takes the histogram of so many elements to that of
    one more, the whole list takes it as far as it is long. -/
theorem foldl_hst {L : Type} (key : ℕ → ℕ) (n : ℕ) (f : Vec F S8192 .i32 → L → Vec F S8192 .i32) (l : List L) (pos : L → ℕ)
    (hf : ∀ k ∈ l, f (hstV (F := F) key (n + pos k)) k = hstV (F := F) key (n + pos k + 1)) :
    ∀ m : ℕ, (∀ (q : ℕ) (hq : q < l.length), pos l[q] = m + q) →
      l.foldl f (hstV (F := F) key (n + m)) = hstV (F := F) key (n + m + l.length) := by
  induction l with
  | nil => intro m _; rfl
  | cons k l ih =>
    intro m hl
    have hk : pos k = m := hl 0 (by simp)
    have h1 := hf k (by simp)
    rw [hk] at h1
    rw [List.foldl_cons, h1]
    refine (ih (fun k' hk' => hf k' (List.mem_cons_of_mem _ hk')) (m + 1) ?_).trans ?_
    · intro q hq
      have := hl (q + 1) (by simpa using hq)
      simp only [List.getElem_cons_succ] at this
      omega
    · rw [List.length_cons]; congr 1; omega

/-- The scatter-add of sixteen ones at the keys of the next sixteen elements. -/
theorem storeIdx_hst [FloatOps F] (key : ℕ → ℕ) (n : ℕ) (idxs : Fin S8192.rank → IVec S16 32) (v : Vec F S16 .i32) (mask : IVec S16 1)
    (h : ∀ a x, (idxs a x).toNat < S8192.size a) (hk : ∀ x : S16.Idx, (idxs 0 x).toNat = key (n + (x 0).val))
    (hv : ∀ x, v x = (1#32 : BitVec 32)) (hm : ∀ x, mask x = 1#1) :
    storeIdx (F := F) (e := .i32) (hstV (F := F) key n) idxs v mask true h = hstV (F := F) key (n + 16) := by
  unfold storeIdx
  refine (foldl_hst key n _ _ (fun k => k.val) ?_ 0 ?_).trans ?_
  · intro k _
    have hstep := hstV_step (F := F) key (n + k.val) (idxAt idxs h (Shape.ofLane k)) (hk _)
    rw [← hstep]
    simp only [hm, hv, if_true]
    exact if_pos rfl
  · intro q hq; rw [List.getElem_finRange, zero_add]; rfl
  · rw [List.length_finRange]; rfl

/-! ## The word an element is counted in -/

/-- The bin of a value: its rounding plus 32, read as an integer, modulo 64. -/
def binW [FloatOps F] (x : F .f32) : BitVec 32 :=
  IntOp.andi (FloatOps.fptosi 32 (FloatOps.addf (FloatOps.roundeven x) (Scalar.ofBits .f32 0x42000000#32))) 63#32

theorem binW_lt [FloatOps F] (x : F .f32) : (binW x).toNat < 64 := by
  unfold binW IntOp.andi
  rw [BitVec.toNat_and]
  exact lt_of_le_of_lt Nat.and_le_right (by decide)

/-- The histogram word element `j` of value `x` is counted in: its bin's sixteen words, its lane among them, in the
    sub-histogram of its position among eight vectors. -/
def keyN [FloatOps F] (xs : ℕ → F .f32) (j : ℕ) : ℕ := 16 * (binW (xs j)).toNat + j % 16 + (j / 16 % 8) * 1024

/-- The index vector of one scatter, from the values read: bin times sixteen, plus the lane's word `l`. -/
def idxV [FloatOps F] (v : Vec F S16 .f32) (l : IVec S16 32) : IVec S16 32 :=
  addi (shli (andi (fptosi 32 (addf (roundeven v) (broadcast S16 (Scalar.ofBits .f32 0x42000000#32)))) (broadcast S16 63#32)) (broadcast S16 4#32)) l

theorem idxV_apply [FloatOps F] (v : Vec F S16 .f32) (l : IVec S16 32) (u : ℕ) (hu : u < 8)
    (hl : ∀ x : S16.Idx, (l x).toNat = (x 0).val + u * 1024) (x : S16.Idx) :
    (idxV v l x).toNat = 16 * (binW (v x)).toNat + (x 0).val + u * 1024 := by
  have hb := binW_lt (F := F) (v x)
  have hx : (x 0).val < 16 := (x 0).isLt
  show (IntOp.addi (IntOp.shli .vector (binW (v x)) 4#32) (l x)).toNat = _
  have h1 : (IntOp.shli .vector (binW (v x)) 4#32).toNat = 16 * (binW (v x)).toNat := by
    simp only [IntOp.shli]
    simp
    omega
  unfold IntOp.addi
  rw [BitVec.toNat_add, h1, hl]
  omega

theorem idxV_lt [FloatOps F] (v : Vec F S16 .f32) (l : IVec S16 32) (u : ℕ) (hu : u < 8)
    (hl : ∀ x : S16.Idx, (l x).toNat = (x 0).val + u * 1024) (a : Fin S8192.rank) (x : S16.Idx) :
    ((![idxV v l] : Fin 1 → IVec S16 32) a x).toNat < S8192.size a := by
  have hb := binW_lt (F := F) (v x)
  have hx : (x 0).val < 16 := (x 0).isLt
  have ha : a = 0 := Fin.eq_zero a
  subst ha
  show (idxV v l x).toNat < 8192
  rw [idxV_apply v l u hu hl]
  omega

/-- The keys of the sixteen elements one scatter counts. -/
theorem idxV_key [FloatOps F] (xs : ℕ → F .f32) (v : Vec F S16 .f32) (l : IVec S16 32) (m u : ℕ) (hu : u < 8)
    (hl : ∀ x : S16.Idx, (l x).toNat = (x 0).val + u * 1024) (hv : ∀ x : S16.Idx, v x = xs (128 * m + 16 * u + (x 0).val)) (x : S16.Idx) :
    (idxV v l x).toNat = keyN xs (128 * m + 16 * u + (x 0).val) := by
  have hx : (x 0).val < 16 := (x 0).isLt
  rw [idxV_apply v l u hu hl, hv, keyN]
  omega

/-- The word a lane adds to its bin's: lane `x` of the iota plus a constant. -/
theorem laneV (u : ℕ) (hu : u < 8) (x : S16.Idx) (h : S16.Iotas .scVector 32 [0]) :
    ((addi (iota .scVector S16 32 [0] h) (broadcast S16 (BitVec.ofNat 32 (u * 1024)))) x).toNat = (x 0).val + u * 1024 := by
  have hx : (x 0).val < 16 := (x 0).isLt
  show (IntOp.addi (BitVec.ofNat 32 (0 * S16.size 0 + (x 0).val)) (BitVec.ofNat 32 (u * 1024))).toNat = _
  unfold IntOp.addi
  rw [BitVec.toNat_add, BitVec.toNat_ofNat, BitVec.toNat_ofNat]
  omega

end Cert.Proof.K
-- ==== Proof.Setup.lean ====
/-
  The program as the launch theorem sees it, the resource algebra, and names for the buffers every later module uses.
-/
module

public import proofs.«01_k».proof.Proof.Hist
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

def EP : Emb UP (MT nD τ sig (HIx 1) (Elt F) ℕ UU ℕ) := (Emb.inl : Emb UP (UP × Counters)).trans embR

instance EP_landsIn : (EP (F := F)).LandsIn (upEmb : UEmb _ 𝕄) := by unfold EP; infer_instance

/-! ## The buffers -/

abbrev xLoc (d : Dev nD) : Loc nD τ sig := (SparseCore.T d).loc main_arg0
abbrev oLoc (d : Dev nD) : Loc nD τ sig := (SparseCore.T d).loc main_v0
abbrev yLoc (d : Dev nD) : Loc nD τ sig := (SparseCore.T d).loc main_v1
abbrev zLoc (d : Dev nD) : Loc nD τ sig := (SparseCore.T d).loc main_v2

/-- The input, the partial histograms, and a tile's two chunk buffers and its histogram, as a tile names them. -/
abbrev xM : Memref sig .scVector .hbm S33554432 .f32 := Memref.whole main_arg0_scv
abbrev oM : Memref sig .scVector .hbm S32x1024 .i32 := Memref.whole main_v0_scv
abbrev aM : Memref sig .scVector .vmem S16384 .f32 := Memref.whole cc0_scratch0
abbrev bM : Memref sig .scVector .vmem S16384 .f32 := Memref.whole cc0_scratch1
abbrev hM : Memref sig .scVector .vmem S8192 .i32 := Memref.whole cc0_scratch2

abbrev cV (L : grid0.Coords) : Fin τ.nSC := (L 0).castLE hcore0
abbrev jV (L : grid0.Coords) : Fin τ.nSub := (L 1).castLE hsub0
/-- The tile's thread. -/
abbrev thr (d : Dev nD) (L : grid0.Coords) : Thread nD τ := V d (cV L) (jV L)

/-! ## What a tile counts -/

/-- Positions of the input and of the histogram, from any number. -/
def wordX (n : ℕ) : S33554432.Idx := fun a => ⟨n % 33554432, by rw [Fin.eq_zero a]; exact Nat.mod_lt _ (by decide)⟩
def wordH (n : ℕ) : S8192.Idx := fun a => ⟨n % 8192, by rw [Fin.eq_zero a]; exact Nat.mod_lt _ (by decide)⟩

/-- The input, read at any number. -/
def xAt (f : Vec F S33554432 .f32) (n : ℕ) : F .f32 := f (wordX n)

/-- The elements of tile `w`. -/
def tileX (f : Vec F S33554432 .f32) (w : ℕ) (j : ℕ) : F .f32 := xAt f (1048576 * w + j)

/-- Chunk `ch` of a tile's elements, as a chunk buffer's contents. -/
def chV (xs : ℕ → F .f32) (ch : ℕ) : Vec F S16384 .f32 := fun p => xs (16384 * ch + (p 0).val)

/-- The eight sub-histograms summed at word `g`. -/
def sum8 (h : Vec F S8192 .i32) (g : ℕ) : BitVec 32 :=
  let at' (n : ℕ) : BitVec 32 := h (wordH n)
  at' g + at' (1024 + g) + at' (2048 + g) + at' (3072 + g) + at' (4096 + g) + at' (5120 + g) + at' (6144 + g) + at' (7168 + g)

/-- The partial histograms: row `w` holds tile `w`'s. -/
def outF [FloatOps F] (f : Vec F S33554432 .f32) : Vec F S32x1024 .i32 := fun p =>
  sum8 (F := F) (hstV (F := F) (keyN (tileX f (p 0).val)) 1048576) (p 1).val

end Cert.Proof.K
-- ==== Proof.Inner.lean ====
/-
  One scatter-add of a tile, and the loops over a chunk's vectors made of them.
-/
module

public import proofs.«01_k».proof.Proof.Setup

@[expose] public section

noncomputable section

namespace Cert.Proof.K

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F] (d : Dev nD) (L : grid0.Coords)

/-- The tile's histogram buffer at given contents. -/
abbrev hPts (f : Vec F S8192 .i32) : sProp 𝕄 := hM.view.loc (thr d L) ↦{fullShare} f
abbrev aPts (f : Vec F S16384 .f32) : sProp 𝕄 := aM.view.loc (thr d L) ↦{fullShare} f
abbrev bPts (f : Vec F S16384 .f32) : sProp 𝕄 := bM.view.loc (thr d L) ↦{fullShare} f

omit [FloatOps F] in
theorem hPts_whole (f : Vec F S8192 .i32) :
    ((hM.access (.whole S8192)).loc (thr d L) ↦[(hM.access (.whole S8192)).set]{fullShare} f : sProp 𝕄) = hPts d L f := by
  rw [show (hM.access (.whole S8192)).set = Finset.univ from Memref.set_access_whole _]

/-- One scatter-add: sixteen more elements counted. -/
theorem wp_scat {α : Type} {Q : α → sProp 𝕄} (key : ℕ → ℕ) (n n' : ℕ) (hn : n' = n + 16) {idx : IVec S16 32} {v : Vec F S16 .i32} {mask : IVec S16 1}
    {h : ∀ a x, ((![idx] : Fin 1 → IVec S16 32) a x).toNat < S8192.size a}
    {hs : (hM.access (.whole S8192)).Stores Finset.univ} {k : PUnit → Prog (TpuEff nD τ sig (Elt F) Λ₀ (thr d L).2) α}
    (hk : ∀ x : S16.Idx, (idx x).toNat = key (n + (x 0).val)) (hv : ∀ x, v x = (1#32 : BitVec 32)) (hm : ∀ x, mask x = 1#1) :
    hPts (F := F) d L (hstV key n)
      ⊢ iprop((hPts d L (hstV key n') -∗ wp frame (wpE (defs₀ (F := F)) 𝒱₀ (thr d L) none) Set.univ (k ⟨⟩) Q)
        -∗ wp frame (wpE (defs₀ (F := F)) 𝒱₀ (thr d L) none) Set.univ
            (SparseCore.vectorStoreIdx (e := .i32) hM ![idx] v mask true h hs >>= k) Q) := by
  subst hn
  iintro H Hk
  ihave H := (Entails.of_eq (hPts_whole (F := F) d L _).symm) $$ H
  iapply (SparseCore.wp_vectorStoreIdx 𝒱₀ (thr d L) none Set.univ (base := hM)) $$ H
  iintro H
  iapply Hk
  ihave H := (Entails.of_eq (hPts_whole (F := F) d L _)) $$ H
  rw [show ((hM.access (.whole S8192)).write (Elt F) (hstV (F := F) key n)
      (storeIdx (F := F) (e := .i32) ((hM.access (.whole S8192)).read (Elt F) (hstV (F := F) key n)) ![idx] v mask true h) Finset.univ)
      = hstV (F := F) key (n + 16) from by
    refine (Memref.write_access_whole_univ _ _ _ _).trans ?_
    rw [show (hM.access (.whole S8192)).read (Elt F) (hstV (F := F) key n) = hstV (F := F) key n from Memref.read_access_whole _ _ _]
    exact storeIdx_hst key n _ _ _ _ hk hv hm]
  iexact H

omit [FloatOps F] in
/-- A load of sixteen elements of a chunk. -/
theorem rd_a (xs : ℕ → F .f32) (ch n : ℕ) {off : Fin 1 → ℕ} (ho : off = ![n]) (inb : ∀ a, off a + S16.size a ≤ S16384.size a) (x : S16.Idx) :
    (aM.view.readAt (Elt F) (Rect.unit (s := S16384) off S16.size inb).toLoadRect (chV xs ch) : Vec F S16 .f32) x = xs (16384 * ch + n + (x 0).val) := by
  subst ho
  show xs (16384 * ch + (n + 1 * (x 0).val)) = _
  congr 1; omega
omit [FloatOps F] in
theorem rd_b (xs : ℕ → F .f32) (ch n : ℕ) {off : Fin 1 → ℕ} (ho : off = ![n]) (inb : ∀ a, off a + S16.size a ≤ S16384.size a) (x : S16.Idx) :
    (bM.view.readAt (Elt F) (Rect.unit (s := S16384) off S16.size inb).toLoadRect (chV xs ch) : Vec F S16 .f32) x = xs (16384 * ch + n + (x 0).val) :=
  rd_a xs ch n ho inb x

theorem pay19_one (x : S16.Idx) : k0_pay19 x = (1#32 : BitVec 32) := rfl

/-- The keys of the sixteen elements a scatter counts: vector `u` of the eight at trip `t` of chunk `ch`. -/
theorem key_of (xs : ℕ → F .f32) (ch t u n : ℕ) (hu : u < 8) (hn : n = 16384 * ch + (128 * t + 16 * u)) (v : Vec F S16 .f32) (l : IVec S16 32)
    (hl : ∀ x : S16.Idx, (l x).toNat = (x 0).val + u * 1024) (hv : ∀ x : S16.Idx, v x = xs (16384 * ch + (128 * t + 16 * u) + (x 0).val)) (x : S16.Idx) :
    (idxV v l x).toNat = keyN xs (n + (x 0).val) := by
  have e : 16384 * ch + (128 * t + 16 * u) = 128 * (128 * ch + t) + 16 * u := by omega
  rw [hn, e]
  exact idxV_key xs v l _ u hu hl (fun y => by rw [hv, e]) x

/-- The eight lane offsets. -/
theorem lane0 (x : S16.Idx) : (k0_pay20 x).toNat = (x 0).val + 0 * 1024 := laneV 0 (by decide) x _
theorem lane1 (x : S16.Idx) : (k0_pay21 x).toNat = (x 0).val + 1 * 1024 := laneV 1 (by decide) x _
theorem lane2 (x : S16.Idx) : (k0_pay22 x).toNat = (x 0).val + 2 * 1024 := laneV 2 (by decide) x _
theorem lane3 (x : S16.Idx) : (k0_pay23 x).toNat = (x 0).val + 3 * 1024 := laneV 3 (by decide) x _
theorem lane4 (x : S16.Idx) : (k0_pay24 x).toNat = (x 0).val + 4 * 1024 := laneV 4 (by decide) x _
theorem lane5 (x : S16.Idx) : (k0_pay25 x).toNat = (x 0).val + 5 * 1024 := laneV 5 (by decide) x _
theorem lane6 (x : S16.Idx) : (k0_pay26 x).toNat = (x 0).val + 6 * 1024 := laneV 6 (by decide) x _
theorem lane7 (x : S16.Idx) : (k0_pay27 x).toNat = (x 0).val + 7 * 1024 := laneV 7 (by decide) x _

/-! ### The loop over the first chunk buffer -/

/-! ### The loop over the first chunk buffer -/

/-! ### The loop over the first chunk buffer -/

/-! ### The loop over the first chunk buffer -/

/-! ### The loop over the first chunk buffer -/

set_option maxHeartbeats 4000000 in
/-- The first two scatters of a trip, and the third's load. -/
theorem t3_part1 (xs : ℕ → F .f32) (ch : ℕ) (t : Fin k0_t3_loop.trips) :
    iprop(aPts d L (chV xs ch) ∗ hPts d L (hstV (keyN xs) (16384 * ch + (128 * t.val + 16 * 0))))
      ⊢ wp frame (wpE (defs₀ (F := F)) 𝒱₀ (thr d L) none) Set.univ
          (k0_part1 L xM (Memref.isWhole_whole _) oM (Memref.isWhole_whole _) aM (Memref.isWhole_whole _) bM (Memref.isWhole_whole _)
            hM (Memref.isWhole_whole _) cc0_scratch3 cc0_scratch4 cc0_scoped0 k0_pay19 k0_pay20 k0_pay21 0#32 1#32 t)
          fun r => iprop(aPts d L (chV xs ch) ∗ hPts d L (hstV (keyN xs) (16384 * ch + (128 * t.val + 16 * 2)))
            ∗ ⌜∃ v : Vec F S16 .f32, (∀ x : S16.Idx, v x = xs (16384 * ch + (128 * t.val + 16 * 2) + (x 0).val)) ∧ r.2.1 = k0_pay4 v ∧ r.2.2 = k0_pay5⌝) := by
  rw [k0_part1_eq_skeleton]; unfold k0_part1_skel
  iintro ⟨Ha, Hh⟩
  iapply (wp_load 𝒱₀ (thr d L) none Set.univ (m := aM) (S := Finset.univ) (Finset.subset_univ _)) $$ Ha; iintro Ha
  have hv0 := rd_a xs ch (128 * t.val + 16 * 0) ((k0_off4_eq t).trans (by congr 1)) (k0_off4_inb t)
  generalize (aM.view.readAt (Elt F) (Rect.unit (s := S16384) (k0_off4 t) S16.size (k0_off4_inb t)).toLoadRect (chV xs ch) : Vec F S16 .f32) = v0 at hv0 ⊢
  iapply (wp_assume 𝒱₀ (thr d L) none Set.univ (show k0_chk1 _ from idxV_lt v0 _ 0 (by decide) lane0))
  iapply (wp_scat d L (keyN xs) (16384 * ch + (128 * t.val + 16 * 0)) (16384 * ch + (128 * t.val + 16 * 1)) (by omega)
      (key_of xs ch t.val 0 _ (by decide) rfl v0 _ lane0 (by assumption)) pay19_one (fun _ => rfl)) $$ Hh; iintro Hh
  iapply (wp_load 𝒱₀ (thr d L) none Set.univ (m := aM) (S := Finset.univ) (Finset.subset_univ _)) $$ Ha; iintro Ha
  have hv1 := rd_a xs ch (128 * t.val + 16 * 1) ((k0_off5_eq t).trans (by congr 1)) (k0_off5_inb t)
  generalize (aM.view.readAt (Elt F) (Rect.unit (s := S16384) (k0_off5 t) S16.size (k0_off5_inb t)).toLoadRect (chV xs ch) : Vec F S16 .f32) = v1 at hv1 ⊢
  iapply (wp_assume 𝒱₀ (thr d L) none Set.univ (show k0_chk2 _ from idxV_lt v1 _ 1 (by decide) lane1))
  iapply (wp_scat d L (keyN xs) (16384 * ch + (128 * t.val + 16 * 1)) (16384 * ch + (128 * t.val + 16 * 2)) (by omega)
      (key_of xs ch t.val 1 _ (by decide) rfl v1 _ lane1 (by assumption)) pay19_one (fun _ => rfl)) $$ Hh; iintro Hh
  iapply (wp_load 𝒱₀ (thr d L) none Set.univ (m := aM) (S := Finset.univ) (Finset.subset_univ _)) $$ Ha; iintro Ha
  have hv2 := rd_a xs ch (128 * t.val + 16 * 2) ((k0_off6_eq t).trans (by congr 1)) (k0_off6_inb t)
  generalize (aM.view.readAt (Elt F) (Rect.unit (s := S16384) (k0_off6 t) S16.size (k0_off6_inb t)).toLoadRect (chV xs ch) : Vec F S16 .f32) = v2 at hv2 ⊢
  simp only [Prog.bind]
  sl_step
  isplitl [Ha]; · iexact Ha
  isplitl [Hh]; · iexact Hh
  ipureintro; exact ⟨v2, hv2, rfl, rfl⟩

set_option maxHeartbeats 4000000 in
/-- The third to fifth scatters of a trip, and the sixth's load. -/
theorem t3_part2 (xs : ℕ → F .f32) (ch : ℕ) (t : Fin k0_t3_loop.trips) (a10 : BitVec 32) (v2 : Vec F S16 .f32)
    (hv2 : ∀ x : S16.Idx, v2 x = xs (16384 * ch + (128 * t.val + 16 * 2) + (x 0).val)) :
    iprop(aPts d L (chV xs ch) ∗ hPts d L (hstV (keyN xs) (16384 * ch + (128 * t.val + 16 * 2))))
      ⊢ wp frame (wpE (defs₀ (F := F)) 𝒱₀ (thr d L) none) Set.univ
          (k0_part2 L xM (Memref.isWhole_whole _) oM (Memref.isWhole_whole _) aM (Memref.isWhole_whole _) bM (Memref.isWhole_whole _)
            hM (Memref.isWhole_whole _) cc0_scratch3 cc0_scratch4 cc0_scoped0 k0_pay19 k0_pay22 k0_pay23 k0_pay24 t a10 (k0_pay4 v2) k0_pay5)
          fun r => iprop(aPts d L (chV xs ch) ∗ hPts d L (hstV (keyN xs) (16384 * ch + (128 * t.val + 16 * 5)))
            ∗ ⌜∃ v : Vec F S16 .f32, (∀ x : S16.Idx, v x = xs (16384 * ch + (128 * t.val + 16 * 5) + (x 0).val)) ∧ r = k0_pay9 v⌝) := by
  rw [k0_part2_eq_skeleton]; unfold k0_part2_skel
  iintro ⟨Ha, Hh⟩
  iapply (wp_assume 𝒱₀ (thr d L) none Set.univ (show k0_chk3 _ from idxV_lt v2 _ 2 (by decide) lane2))
  iapply (wp_scat d L (keyN xs) (16384 * ch + (128 * t.val + 16 * 2)) (16384 * ch + (128 * t.val + 16 * 3)) (by omega)
      (key_of xs ch t.val 2 _ (by decide) rfl v2 _ lane2 (by assumption)) pay19_one (fun _ => rfl)) $$ Hh; iintro Hh
  iapply (wp_load 𝒱₀ (thr d L) none Set.univ (m := aM) (S := Finset.univ) (Finset.subset_univ _)) $$ Ha; iintro Ha
  have hv3 := rd_a xs ch (128 * t.val + 16 * 3) ((k0_off7_eq t).trans (by congr 1)) (k0_off7_inb t)
  generalize (aM.view.readAt (Elt F) (Rect.unit (s := S16384) (k0_off7 t) S16.size (k0_off7_inb t)).toLoadRect (chV xs ch) : Vec F S16 .f32) = v3 at hv3 ⊢
  iapply (wp_assume 𝒱₀ (thr d L) none Set.univ (show k0_chk4 _ from idxV_lt v3 _ 3 (by decide) lane3))
  iapply (wp_scat d L (keyN xs) (16384 * ch + (128 * t.val + 16 * 3)) (16384 * ch + (128 * t.val + 16 * 4)) (by omega)
      (key_of xs ch t.val 3 _ (by decide) rfl v3 _ lane3 (by assumption)) pay19_one (fun _ => rfl)) $$ Hh; iintro Hh
  iapply (wp_load 𝒱₀ (thr d L) none Set.univ (m := aM) (S := Finset.univ) (Finset.subset_univ _)) $$ Ha; iintro Ha
  have hv4 := rd_a xs ch (128 * t.val + 16 * 4) ((k0_off8_eq t).trans (by congr 1)) (k0_off8_inb t)
  generalize (aM.view.readAt (Elt F) (Rect.unit (s := S16384) (k0_off8 t) S16.size (k0_off8_inb t)).toLoadRect (chV xs ch) : Vec F S16 .f32) = v4 at hv4 ⊢
  iapply (wp_assume 𝒱₀ (thr d L) none Set.univ (show k0_chk5 _ from idxV_lt v4 _ 4 (by decide) lane4))
  iapply (wp_scat d L (keyN xs) (16384 * ch + (128 * t.val + 16 * 4)) (16384 * ch + (128 * t.val + 16 * 5)) (by omega)
      (key_of xs ch t.val 4 _ (by decide) rfl v4 _ lane4 (by assumption)) pay19_one (fun _ => rfl)) $$ Hh; iintro Hh
  iapply (wp_load 𝒱₀ (thr d L) none Set.univ (m := aM) (S := Finset.univ) (Finset.subset_univ _)) $$ Ha; iintro Ha
  have hv5 := rd_a xs ch (128 * t.val + 16 * 5) ((k0_off9_eq t).trans (by congr 1)) (k0_off9_inb t)
  generalize (aM.view.readAt (Elt F) (Rect.unit (s := S16384) (k0_off9 t) S16.size (k0_off9_inb t)).toLoadRect (chV xs ch) : Vec F S16 .f32) = v5 at hv5 ⊢
  simp only [Prog.bind]
  sl_step
  isplitl [Ha]; · iexact Ha
  isplitl [Hh]; · iexact Hh
  ipureintro; exact ⟨v5, hv5, rfl⟩

set_option maxHeartbeats 4000000 in
/-- One trip: 128 more elements counted. -/
theorem t3_trip (xs : ℕ → F .f32) (ch : ℕ) (t : Fin k0_t3_loop.trips) :
    iprop(aPts d L (chV xs ch) ∗ hPts d L (hstV (keyN xs) (16384 * ch + (128 * t.val + 16 * 0))))
      ⊢ wp frame (wpE (defs₀ (F := F)) 𝒱₀ (thr d L) none) Set.univ
          (k0_t3_body L xM (Memref.isWhole_whole _) oM (Memref.isWhole_whole _) aM (Memref.isWhole_whole _) bM (Memref.isWhole_whole _)
            hM (Memref.isWhole_whole _) cc0_scratch3 cc0_scratch4 cc0_scoped0 t ())
          fun _ => iprop(aPts d L (chV xs ch) ∗ hPts d L (hstV (keyN xs) (16384 * ch + (128 * t.val + 16 * 8)))) := by
  unfold k0_t3_body
  rw [wp_bind]
  refine (t3_part1 d L xs ch t).trans (wp_mono _ _ _ fun r => ?_)
  obtain ⟨a10, r1, r2⟩ := r
  iintro ⟨Ha, Hh, %hr⟩
  obtain ⟨v2, hv2, rfl, rfl⟩ := hr
  dsimp only
  rw [wp_bind]
  iapply ((t3_part2 d L xs ch t a10 v2 hv2).trans (wp_mono _ _ _ fun r => ?cont)) $$ [Ha Hh]
  rotate_left
  · isplitl [Ha] <;> iassumption
  iintro ⟨Ha, Hh, %hr⟩
  obtain ⟨v5, hv5, rfl⟩ := hr
  iapply (wp_assume 𝒱₀ (thr d L) none Set.univ (show k0_chk6 _ from idxV_lt v5 _ 5 (by decide) lane5))
  iapply (wp_scat d L (keyN xs) (16384 * ch + (128 * t.val + 16 * 5)) (16384 * ch + (128 * t.val + 16 * 6)) (by omega)
      (key_of xs ch t.val 5 _ (by decide) rfl v5 _ lane5 (by assumption)) pay19_one (fun _ => rfl)) $$ Hh; iintro Hh
  iapply (wp_load 𝒱₀ (thr d L) none Set.univ (m := aM) (S := Finset.univ) (Finset.subset_univ _)) $$ Ha; iintro Ha
  have hv6 := rd_a xs ch (128 * t.val + 16 * 6) ((k0_off10_eq t).trans (by congr 1)) (k0_off10_inb t)
  generalize (aM.view.readAt (Elt F) (Rect.unit (s := S16384) (k0_off10 t) S16.size (k0_off10_inb t)).toLoadRect (chV xs ch) : Vec F S16 .f32) = v6 at hv6 ⊢
  iapply (wp_assume 𝒱₀ (thr d L) none Set.univ (show k0_chk7 _ from idxV_lt v6 _ 6 (by decide) lane6))
  iapply (wp_scat d L (keyN xs) (16384 * ch + (128 * t.val + 16 * 6)) (16384 * ch + (128 * t.val + 16 * 7)) (by omega)
      (key_of xs ch t.val 6 _ (by decide) rfl v6 _ lane6 (by assumption)) pay19_one (fun _ => rfl)) $$ Hh; iintro Hh
  iapply (wp_load 𝒱₀ (thr d L) none Set.univ (m := aM) (S := Finset.univ) (Finset.subset_univ _)) $$ Ha; iintro Ha
  have hv7 := rd_a xs ch (128 * t.val + 16 * 7) ((k0_off11_eq t).trans (by congr 1)) (k0_off11_inb t)
  generalize (aM.view.readAt (Elt F) (Rect.unit (s := S16384) (k0_off11 t) S16.size (k0_off11_inb t)).toLoadRect (chV xs ch) : Vec F S16 .f32) = v7 at hv7 ⊢
  iapply (wp_assume 𝒱₀ (thr d L) none Set.univ (show k0_chk8 _ from idxV_lt v7 _ 7 (by decide) lane7))
  iapply (wp_scat d L (keyN xs) (16384 * ch + (128 * t.val + 16 * 7)) (16384 * ch + (128 * t.val + 16 * 8)) (by omega)
      (key_of xs ch t.val 7 _ (by decide) rfl v7 _ lane7 (by assumption)) pay19_one (fun _ => rfl)) $$ Hh; iintro Hh
  sl_step
  isplitl [Ha] <;> iassumption

theorem t3_trips : k0_t3_loop.trips = 128 := by decide

/-- The loop: the chunk counted. -/
theorem t3_loop (xs : ℕ → F .f32) (ch : ℕ) :
    iprop(aPts d L (chV xs ch) ∗ hPts d L (hstV (keyN xs) (16384 * ch)))
      ⊢ wp frame (wpE (defs₀ (F := F)) 𝒱₀ (thr d L) none) Set.univ
          (Scf.Loop.for k0_t3_loop k0_t3_ok () (k0_t3_body L xM (Memref.isWhole_whole _) oM (Memref.isWhole_whole _) aM (Memref.isWhole_whole _) bM (Memref.isWhole_whole _)
            hM (Memref.isWhole_whole _) cc0_scratch3 cc0_scratch4 cc0_scoped0))
          fun _ => iprop(aPts d L (chV xs ch) ∗ hPts d L (hstV (keyN xs) (16384 * (ch + 1)))) := by
  iintro H
  iapply (Scf.wp_for frame (wpE (defs₀ (F := F)) 𝒱₀ (thr d L) none) Set.univ _ _ _ _ _ _
    (fun n _ => iprop(aPts d L (chV xs ch) ∗ hPts d L (hstV (keyN xs) (16384 * ch + (128 * n + 16 * 0))))) (fun t _ => t3_trip d L xs ch t))
  isplitl [H]; · iexact H
  iintro %_ H
  rw [show Scf.trips _ _ _ = 128 from t3_trips, show 16384 * ch + (128 * 128 + 16 * 0) = 16384 * (ch + 1) by omega]
  iexact H

/-! ### The loop over the second chunk buffer -/

set_option maxHeartbeats 4000000 in
/-- The first two scatters of a trip, and the third's load. -/
theorem t4_part1 (xs : ℕ → F .f32) (ch : ℕ) (t : Fin k0_t4_loop.trips) :
    iprop(bPts d L (chV xs ch) ∗ hPts d L (hstV (keyN xs) (16384 * ch + (128 * t.val + 16 * 0))))
      ⊢ wp frame (wpE (defs₀ (F := F)) 𝒱₀ (thr d L) none) Set.univ
          (k0_part3 L xM (Memref.isWhole_whole _) oM (Memref.isWhole_whole _) aM (Memref.isWhole_whole _) bM (Memref.isWhole_whole _)
            hM (Memref.isWhole_whole _) cc0_scratch3 cc0_scratch4 cc0_scoped0 k0_pay19 k0_pay20 k0_pay21 0#32 1#32 t)
          fun r => iprop(bPts d L (chV xs ch) ∗ hPts d L (hstV (keyN xs) (16384 * ch + (128 * t.val + 16 * 2)))
            ∗ ⌜∃ v : Vec F S16 .f32, (∀ x : S16.Idx, v x = xs (16384 * ch + (128 * t.val + 16 * 2) + (x 0).val)) ∧ r.2.1 = k0_pay12 v ∧ r.2.2 = k0_pay13⌝) := by
  rw [k0_part3_eq_skeleton]; unfold k0_part3_skel
  iintro ⟨Ha, Hh⟩
  iapply (wp_load 𝒱₀ (thr d L) none Set.univ (m := bM) (S := Finset.univ) (Finset.subset_univ _)) $$ Ha; iintro Ha
  have hv0 := rd_b xs ch (128 * t.val + 16 * 0) ((k0_off13_eq t).trans (by congr 1)) (k0_off13_inb t)
  generalize (bM.view.readAt (Elt F) (Rect.unit (s := S16384) (k0_off13 t) S16.size (k0_off13_inb t)).toLoadRect (chV xs ch) : Vec F S16 .f32) = v0 at hv0 ⊢
  iapply (wp_assume 𝒱₀ (thr d L) none Set.univ (show k0_chk9 _ from idxV_lt v0 _ 0 (by decide) lane0))
  iapply (wp_scat d L (keyN xs) (16384 * ch + (128 * t.val + 16 * 0)) (16384 * ch + (128 * t.val + 16 * 1)) (by omega)
      (key_of xs ch t.val 0 _ (by decide) rfl v0 _ lane0 (by assumption)) pay19_one (fun _ => rfl)) $$ Hh; iintro Hh
  iapply (wp_load 𝒱₀ (thr d L) none Set.univ (m := bM) (S := Finset.univ) (Finset.subset_univ _)) $$ Ha; iintro Ha
  have hv1 := rd_b xs ch (128 * t.val + 16 * 1) ((k0_off14_eq t).trans (by congr 1)) (k0_off14_inb t)
  generalize (bM.view.readAt (Elt F) (Rect.unit (s := S16384) (k0_off14 t) S16.size (k0_off14_inb t)).toLoadRect (chV xs ch) : Vec F S16 .f32) = v1 at hv1 ⊢
  iapply (wp_assume 𝒱₀ (thr d L) none Set.univ (show k0_chk10 _ from idxV_lt v1 _ 1 (by decide) lane1))
  iapply (wp_scat d L (keyN xs) (16384 * ch + (128 * t.val + 16 * 1)) (16384 * ch + (128 * t.val + 16 * 2)) (by omega)
      (key_of xs ch t.val 1 _ (by decide) rfl v1 _ lane1 (by assumption)) pay19_one (fun _ => rfl)) $$ Hh; iintro Hh
  iapply (wp_load 𝒱₀ (thr d L) none Set.univ (m := bM) (S := Finset.univ) (Finset.subset_univ _)) $$ Ha; iintro Ha
  have hv2 := rd_b xs ch (128 * t.val + 16 * 2) ((k0_off15_eq t).trans (by congr 1)) (k0_off15_inb t)
  generalize (bM.view.readAt (Elt F) (Rect.unit (s := S16384) (k0_off15 t) S16.size (k0_off15_inb t)).toLoadRect (chV xs ch) : Vec F S16 .f32) = v2 at hv2 ⊢
  simp only [Prog.bind]
  sl_step
  isplitl [Ha]; · iexact Ha
  isplitl [Hh]; · iexact Hh
  ipureintro; exact ⟨v2, hv2, rfl, rfl⟩

set_option maxHeartbeats 4000000 in
/-- The third to fifth scatters of a trip, and the sixth's load. -/
theorem t4_part2 (xs : ℕ → F .f32) (ch : ℕ) (t : Fin k0_t4_loop.trips) (a10 : BitVec 32) (v2 : Vec F S16 .f32)
    (hv2 : ∀ x : S16.Idx, v2 x = xs (16384 * ch + (128 * t.val + 16 * 2) + (x 0).val)) :
    iprop(bPts d L (chV xs ch) ∗ hPts d L (hstV (keyN xs) (16384 * ch + (128 * t.val + 16 * 2))))
      ⊢ wp frame (wpE (defs₀ (F := F)) 𝒱₀ (thr d L) none) Set.univ
          (k0_part4 L xM (Memref.isWhole_whole _) oM (Memref.isWhole_whole _) aM (Memref.isWhole_whole _) bM (Memref.isWhole_whole _)
            hM (Memref.isWhole_whole _) cc0_scratch3 cc0_scratch4 cc0_scoped0 k0_pay19 k0_pay22 k0_pay23 k0_pay24 t a10 (k0_pay12 v2) k0_pay13)
          fun r => iprop(bPts d L (chV xs ch) ∗ hPts d L (hstV (keyN xs) (16384 * ch + (128 * t.val + 16 * 5)))
            ∗ ⌜∃ v : Vec F S16 .f32, (∀ x : S16.Idx, v x = xs (16384 * ch + (128 * t.val + 16 * 5) + (x 0).val)) ∧ r = k0_pay17 v⌝) := by
  rw [k0_part4_eq_skeleton]; unfold k0_part4_skel
  iintro ⟨Ha, Hh⟩
  iapply (wp_assume 𝒱₀ (thr d L) none Set.univ (show k0_chk11 _ from idxV_lt v2 _ 2 (by decide) lane2))
  iapply (wp_scat d L (keyN xs) (16384 * ch + (128 * t.val + 16 * 2)) (16384 * ch + (128 * t.val + 16 * 3)) (by omega)
      (key_of xs ch t.val 2 _ (by decide) rfl v2 _ lane2 (by assumption)) pay19_one (fun _ => rfl)) $$ Hh; iintro Hh
  iapply (wp_load 𝒱₀ (thr d L) none Set.univ (m := bM) (S := Finset.univ) (Finset.subset_univ _)) $$ Ha; iintro Ha
  have hv3 := rd_b xs ch (128 * t.val + 16 * 3) ((k0_off16_eq t).trans (by congr 1)) (k0_off16_inb t)
  generalize (bM.view.readAt (Elt F) (Rect.unit (s := S16384) (k0_off16 t) S16.size (k0_off16_inb t)).toLoadRect (chV xs ch) : Vec F S16 .f32) = v3 at hv3 ⊢
  iapply (wp_assume 𝒱₀ (thr d L) none Set.univ (show k0_chk12 _ from idxV_lt v3 _ 3 (by decide) lane3))
  iapply (wp_scat d L (keyN xs) (16384 * ch + (128 * t.val + 16 * 3)) (16384 * ch + (128 * t.val + 16 * 4)) (by omega)
      (key_of xs ch t.val 3 _ (by decide) rfl v3 _ lane3 (by assumption)) pay19_one (fun _ => rfl)) $$ Hh; iintro Hh
  iapply (wp_load 𝒱₀ (thr d L) none Set.univ (m := bM) (S := Finset.univ) (Finset.subset_univ _)) $$ Ha; iintro Ha
  have hv4 := rd_b xs ch (128 * t.val + 16 * 4) ((k0_off17_eq t).trans (by congr 1)) (k0_off17_inb t)
  generalize (bM.view.readAt (Elt F) (Rect.unit (s := S16384) (k0_off17 t) S16.size (k0_off17_inb t)).toLoadRect (chV xs ch) : Vec F S16 .f32) = v4 at hv4 ⊢
  iapply (wp_assume 𝒱₀ (thr d L) none Set.univ (show k0_chk13 _ from idxV_lt v4 _ 4 (by decide) lane4))
  iapply (wp_scat d L (keyN xs) (16384 * ch + (128 * t.val + 16 * 4)) (16384 * ch + (128 * t.val + 16 * 5)) (by omega)
      (key_of xs ch t.val 4 _ (by decide) rfl v4 _ lane4 (by assumption)) pay19_one (fun _ => rfl)) $$ Hh; iintro Hh
  iapply (wp_load 𝒱₀ (thr d L) none Set.univ (m := bM) (S := Finset.univ) (Finset.subset_univ _)) $$ Ha; iintro Ha
  have hv5 := rd_b xs ch (128 * t.val + 16 * 5) ((k0_off18_eq t).trans (by congr 1)) (k0_off18_inb t)
  generalize (bM.view.readAt (Elt F) (Rect.unit (s := S16384) (k0_off18 t) S16.size (k0_off18_inb t)).toLoadRect (chV xs ch) : Vec F S16 .f32) = v5 at hv5 ⊢
  simp only [Prog.bind]
  sl_step
  isplitl [Ha]; · iexact Ha
  isplitl [Hh]; · iexact Hh
  ipureintro; exact ⟨v5, hv5, rfl⟩

set_option maxHeartbeats 4000000 in
/-- One trip: 128 more elements counted. -/
theorem t4_trip (xs : ℕ → F .f32) (ch : ℕ) (t : Fin k0_t4_loop.trips) :
    iprop(bPts d L (chV xs ch) ∗ hPts d L (hstV (keyN xs) (16384 * ch + (128 * t.val + 16 * 0))))
      ⊢ wp frame (wpE (defs₀ (F := F)) 𝒱₀ (thr d L) none) Set.univ
          (k0_t4_body L xM (Memref.isWhole_whole _) oM (Memref.isWhole_whole _) aM (Memref.isWhole_whole _) bM (Memref.isWhole_whole _)
            hM (Memref.isWhole_whole _) cc0_scratch3 cc0_scratch4 cc0_scoped0 t ())
          fun _ => iprop(bPts d L (chV xs ch) ∗ hPts d L (hstV (keyN xs) (16384 * ch + (128 * t.val + 16 * 8)))) := by
  unfold k0_t4_body
  rw [wp_bind]
  refine (t4_part1 d L xs ch t).trans (wp_mono _ _ _ fun r => ?_)
  obtain ⟨a10, r1, r2⟩ := r
  iintro ⟨Ha, Hh, %hr⟩
  obtain ⟨v2, hv2, rfl, rfl⟩ := hr
  dsimp only
  rw [wp_bind]
  iapply ((t4_part2 d L xs ch t a10 v2 hv2).trans (wp_mono _ _ _ fun r => ?cont)) $$ [Ha Hh]
  rotate_left
  · isplitl [Ha] <;> iassumption
  iintro ⟨Ha, Hh, %hr⟩
  obtain ⟨v5, hv5, rfl⟩ := hr
  iapply (wp_assume 𝒱₀ (thr d L) none Set.univ (show k0_chk14 _ from idxV_lt v5 _ 5 (by decide) lane5))
  iapply (wp_scat d L (keyN xs) (16384 * ch + (128 * t.val + 16 * 5)) (16384 * ch + (128 * t.val + 16 * 6)) (by omega)
      (key_of xs ch t.val 5 _ (by decide) rfl v5 _ lane5 (by assumption)) pay19_one (fun _ => rfl)) $$ Hh; iintro Hh
  iapply (wp_load 𝒱₀ (thr d L) none Set.univ (m := bM) (S := Finset.univ) (Finset.subset_univ _)) $$ Ha; iintro Ha
  have hv6 := rd_b xs ch (128 * t.val + 16 * 6) ((k0_off19_eq t).trans (by congr 1)) (k0_off19_inb t)
  generalize (bM.view.readAt (Elt F) (Rect.unit (s := S16384) (k0_off19 t) S16.size (k0_off19_inb t)).toLoadRect (chV xs ch) : Vec F S16 .f32) = v6 at hv6 ⊢
  iapply (wp_assume 𝒱₀ (thr d L) none Set.univ (show k0_chk15 _ from idxV_lt v6 _ 6 (by decide) lane6))
  iapply (wp_scat d L (keyN xs) (16384 * ch + (128 * t.val + 16 * 6)) (16384 * ch + (128 * t.val + 16 * 7)) (by omega)
      (key_of xs ch t.val 6 _ (by decide) rfl v6 _ lane6 (by assumption)) pay19_one (fun _ => rfl)) $$ Hh; iintro Hh
  iapply (wp_load 𝒱₀ (thr d L) none Set.univ (m := bM) (S := Finset.univ) (Finset.subset_univ _)) $$ Ha; iintro Ha
  have hv7 := rd_b xs ch (128 * t.val + 16 * 7) ((k0_off20_eq t).trans (by congr 1)) (k0_off20_inb t)
  generalize (bM.view.readAt (Elt F) (Rect.unit (s := S16384) (k0_off20 t) S16.size (k0_off20_inb t)).toLoadRect (chV xs ch) : Vec F S16 .f32) = v7 at hv7 ⊢
  iapply (wp_assume 𝒱₀ (thr d L) none Set.univ (show k0_chk16 _ from idxV_lt v7 _ 7 (by decide) lane7))
  iapply (wp_scat d L (keyN xs) (16384 * ch + (128 * t.val + 16 * 7)) (16384 * ch + (128 * t.val + 16 * 8)) (by omega)
      (key_of xs ch t.val 7 _ (by decide) rfl v7 _ lane7 (by assumption)) pay19_one (fun _ => rfl)) $$ Hh; iintro Hh
  sl_step
  isplitl [Ha] <;> iassumption

theorem t4_trips : k0_t4_loop.trips = 128 := by decide

/-- The loop: the chunk counted. -/
theorem t4_loop (xs : ℕ → F .f32) (ch : ℕ) :
    iprop(bPts d L (chV xs ch) ∗ hPts d L (hstV (keyN xs) (16384 * ch)))
      ⊢ wp frame (wpE (defs₀ (F := F)) 𝒱₀ (thr d L) none) Set.univ
          (Scf.Loop.for k0_t4_loop k0_t4_ok () (k0_t4_body L xM (Memref.isWhole_whole _) oM (Memref.isWhole_whole _) aM (Memref.isWhole_whole _) bM (Memref.isWhole_whole _)
            hM (Memref.isWhole_whole _) cc0_scratch3 cc0_scratch4 cc0_scoped0))
          fun _ => iprop(bPts d L (chV xs ch) ∗ hPts d L (hstV (keyN xs) (16384 * (ch + 1)))) := by
  iintro H
  iapply (Scf.wp_for frame (wpE (defs₀ (F := F)) 𝒱₀ (thr d L) none) Set.univ _ _ _ _ _ _
    (fun n _ => iprop(bPts d L (chV xs ch) ∗ hPts d L (hstV (keyN xs) (16384 * ch + (128 * n + 16 * 0))))) (fun t _ => t4_trip d L xs ch t))
  isplitl [H]; · iexact H
  iintro %_ H
  rw [show Scf.trips _ _ _ = 128 from t4_trips, show 16384 * ch + (128 * 128 + 16 * 0) = 16384 * (ch + 1) by omega]
  iexact H

end Cert.Proof.K
-- ==== Proof.Fetch.lean ====
/-
  A tile's fetches: a chunk on its way into a chunk buffer, its start and its wait.
-/
module

public import proofs.«01_k».proof.Proof.Inner

@[expose] public section

noncomputable section

namespace Cert.Proof.K

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F] (d : Dev nD) (L : grid0.Coords)

/-- The tile's number. -/
def wid : ℕ := 2 * (L 1).val + (L 0).val

abbrev xPts (q : PosShare TreeShare) (f : Vec F S33554432 .f32) : sProp 𝕄 := xM.view.loc (thr d L) ↦{q} f

/-- The chunk at an offset of the input, as a tile addresses it. -/
abbrev xSl (off : Fin 1 → ℕ) (inb : ∀ a, off a + S16384.size a ≤ S33554432.size a) : Memref sig .scVector .hbm S16384 .f32 :=
  xM.slice (Rect.unit (s := S33554432) off S16384.size inb) (fun _ => rfl)

omit [FloatOps F] in
/-- What the chunk reads. -/
theorem xSl_read (f : Vec F S33554432 .f32) (n : ℕ) {off : Fin 1 → ℕ} (ho : off = ![1048576 * wid L + 16384 * n]) (inb : ∀ a, off a + S16384.size a ≤ S33554432.size a) :
    ((xSl off inb).view.read (Elt F) f : Vec F S16384 .f32) = chV (tileX f (wid L)) n := by
  subst ho
  have hb := inb 0
  change 1048576 * wid L + 16384 * n + 16384 ≤ 33554432 at hb
  funext p
  have hp : (p 0).val < 16384 := (p 0).isLt
  show f _ = f _
  congr 1
  funext a
  rw [Fin.eq_zero a]
  refine Fin.ext ?_
  show (1048576 * wid L + 16384 * n) + 1 * (p 0).val = (1048576 * wid L + (16384 * n + (p 0).val)) % 33554432
  omega

/-- The waits recorded so far. -/
def OW (O : CellTallies nD τ sig (HIx 1)) (W : Waits sig (HIx 1)) : sProp 𝕄 := iprop(∃ W', ⌜∀ p ∈ W', p ∈ W ∨ p.2 = none⌝ ∗ owes (thr d L) O W')

/-! ### The first chunk buffer -/

/-- Chunk `n` on its way into it. -/
def FlA (q : PosShare TreeShare) (f : Vec F S33554432 .f32) (n : ℕ) : sProp 𝕄 :=
  iprop(∃ S : Finset S33554432.Idx, Transfers.Flight countersEmb (thr d L) (.dma cc0_scratch3.sem) (default : HIx 1) aM.view.dmaCredit
      iprop(aPts d L (chV (tileX f (wid L)) n) ∗ (xM.view.loc (thr d L) ↦[S]{q} f)) ∗ (xM.view.loc (thr d L) ↦[Finset.univ \ S]{q} f))

/-- Nothing on its way. -/
def IdleA (q : PosShare TreeShare) (f : Vec F S33554432 .f32) : sProp 𝕄 :=
  iprop(xPts d L q f ∗ (∃ g, aPts d L g) ∗ semVal (thr d L, .dma cc0_scratch3.sem) 0)

/-- The start of a fetch. -/
theorem start_a {α : Type} {Q : α → sProp 𝕄} (q : PosShare TreeShare) (f : Vec F S33554432 .f32) (n : ℕ) {off : Fin 1 → ℕ}
    (ho : off = ![1048576 * wid L + 16384 * n]) {inb : ∀ a, off a + S16384.size a ≤ S33554432.size a}
    {hsrc hdst hsem} {k : PUnit → Prog (TpuEff nD τ sig (Elt F) Λ₀ (thr d L).2) α} :
    IdleA d L q f
      ⊢ iprop((FlA d L q f n -∗ wp frame (wpE (defs₀ (F := F)) 𝒱₀ (thr d L) none) Set.univ (k ⟨⟩) Q)
        -∗ wp frame (wpE (defs₀ (F := F)) 𝒱₀ (thr d L) none) Set.univ
            (.op (.enqueueDma (xSl off inb) (.here aM) (.dma cc0_scratch3.sem) hsrc hdst hsem) k) Q) := by
  unfold IdleA
  iintro ⟨Hx, ⟨%g, Ha⟩, Hs⟩ Hk
  ihave Hx := (pointsTo_split_subset (q := q) (f := f) (S := Finset.univ) (Finset.subset_univ (xSl off inb).view.set)).1 $$ Hx
  icases Hx with ⟨Hx, Hxr⟩
  iapply (Transfers.wp_dmaLocal countersEmb 𝒱₀ (thr d L) none (src := xSl off inb) (dst := aM) (Sd := Finset.univ) (default : HIx 1)
      aM.view.dmaCredit rfl (by decide) (Finset.subset_univ _)) $$ [Hx Ha Hs]
  · isplitl [Hx]; · iexact Hx
    isplitl [Ha]; · iexact Ha
    iexact Hs
  iintro Hf
  iapply Hk
  unfold FlA
  iexists (xSl off inb).view.set
  isplitl [Hf]
  · rw [show (aM.view.write (Elt F) g (ReadAs.same.apply ((xSl off inb).view.read (Elt F) f)) Finset.univ) = chV (tileX f (wid L)) n from
      (View.write_whole_univ _ _ _).trans (xSl_read L f n ho inb)]
    iexact Hf
  · iexact Hxr

/-- The wait for it. -/
theorem wait_a {α : Type} {Q : α → sProp 𝕄} (q : PosShare TreeShare) (f : Vec F S33554432 .f32) (n : ℕ)
    (O : CellTallies nD τ sig (HIx 1)) (W : Waits sig (HIx 1)) {sp : Space} {s' : Shape} {e' : EltTy} {srcw : Memref sig .scVector sp s' e'}
    {hsrc : srcw.view.WordExact} {hdst : aM.view.WordExact} {k : PUnit → Prog (TpuEff nD τ sig (Elt F) Λ₀ (thr d L).2) α} :
    iprop(FlA d L q f n ∗ OW d L O W ∗ Transfers.MayWaits (thr d L) (default : HIx 1) O)
      ⊢ iprop((iprop((xPts d L q f ∗ aPts d L (chV (tileX f (wid L)) n) ∗ semVal (thr d L, .dma cc0_scratch3.sem) 0) ∗ OW d L O W)
            -∗ wp frame (wpE (defs₀ (F := F)) 𝒱₀ (thr d L) none) Set.univ (k ⟨⟩) Q)
        -∗ wp frame (wpE (defs₀ (F := F)) 𝒱₀ (thr d L) none) Set.univ
            (.op (.waitDma2 cc0_scratch3.sem srcw aM hsrc hdst) k) Q) := by
  unfold FlA OW
  iintro ⟨⟨%S, Hf, Hxr⟩, ⟨%W', %hW', HO⟩, #Hmw⟩ Hk
  iapply (Transfers.wp_waitLocalO countersEmb 𝒱₀ (thr d L) none (default : HIx 1) (rfl : aM.view.dmaCredit = _)) $$ [Hf HO]
  · isplitl [Hf]; · iexact Hf
    isplitl [HO]; · iexact HO
    iapply (Transfers.MayWaits.elim (SemLoc.dma cc0_scratch3.sem)) $$ Hmw
  iintro ⟨⟨Ha, Hx⟩, Hs, HO⟩
  iapply Hk
  isplitl [Ha Hx Hs Hxr]
  · isplitl [Hx Hxr]
    · iapply (pointsTo_split_subset (q := q) (f := f) (S := Finset.univ) (Finset.subset_univ S)).2
      isplitl [Hx] <;> iassumption
    isplitl [Ha] <;> iassumption
  iexists _; isplitr
  swap; · iexact HO
  ipureintro; intro p hp
  rcases Finset.mem_insert.mp hp with hp | hp
  · exact .inr (hp ▸ rfl)
  · exact hW' p hp

/-! ### The second chunk buffer -/

/-- Chunk `n` on its way into it. -/
def FlB (q : PosShare TreeShare) (f : Vec F S33554432 .f32) (n : ℕ) : sProp 𝕄 :=
  iprop(∃ S : Finset S33554432.Idx, Transfers.Flight countersEmb (thr d L) (.dma cc0_scratch4.sem) (default : HIx 1) bM.view.dmaCredit
      iprop(bPts d L (chV (tileX f (wid L)) n) ∗ (xM.view.loc (thr d L) ↦[S]{q} f)) ∗ (xM.view.loc (thr d L) ↦[Finset.univ \ S]{q} f))

/-- Nothing on its way. -/
def IdleB (q : PosShare TreeShare) (f : Vec F S33554432 .f32) : sProp 𝕄 :=
  iprop(xPts d L q f ∗ (∃ g, bPts d L g) ∗ semVal (thr d L, .dma cc0_scratch4.sem) 0)

/-- The start of a fetch. -/
theorem start_b {α : Type} {Q : α → sProp 𝕄} (q : PosShare TreeShare) (f : Vec F S33554432 .f32) (n : ℕ) {off : Fin 1 → ℕ}
    (ho : off = ![1048576 * wid L + 16384 * n]) {inb : ∀ a, off a + S16384.size a ≤ S33554432.size a}
    {hsrc hdst hsem} {k : PUnit → Prog (TpuEff nD τ sig (Elt F) Λ₀ (thr d L).2) α} :
    IdleB d L q f
      ⊢ iprop((FlB d L q f n -∗ wp frame (wpE (defs₀ (F := F)) 𝒱₀ (thr d L) none) Set.univ (k ⟨⟩) Q)
        -∗ wp frame (wpE (defs₀ (F := F)) 𝒱₀ (thr d L) none) Set.univ
            (.op (.enqueueDma (xSl off inb) (.here bM) (.dma cc0_scratch4.sem) hsrc hdst hsem) k) Q) := by
  unfold IdleB
  iintro ⟨Hx, ⟨%g, Ha⟩, Hs⟩ Hk
  ihave Hx := (pointsTo_split_subset (q := q) (f := f) (S := Finset.univ) (Finset.subset_univ (xSl off inb).view.set)).1 $$ Hx
  icases Hx with ⟨Hx, Hxr⟩
  iapply (Transfers.wp_dmaLocal countersEmb 𝒱₀ (thr d L) none (src := xSl off inb) (dst := bM) (Sd := Finset.univ) (default : HIx 1)
      bM.view.dmaCredit rfl (by decide) (Finset.subset_univ _)) $$ [Hx Ha Hs]
  · isplitl [Hx]; · iexact Hx
    isplitl [Ha]; · iexact Ha
    iexact Hs
  iintro Hf
  iapply Hk
  unfold FlB
  iexists (xSl off inb).view.set
  isplitl [Hf]
  · rw [show (bM.view.write (Elt F) g (ReadAs.same.apply ((xSl off inb).view.read (Elt F) f)) Finset.univ) = chV (tileX f (wid L)) n from
      (View.write_whole_univ _ _ _).trans (xSl_read L f n ho inb)]
    iexact Hf
  · iexact Hxr

/-- The wait for it. -/
theorem wait_b {α : Type} {Q : α → sProp 𝕄} (q : PosShare TreeShare) (f : Vec F S33554432 .f32) (n : ℕ)
    (O : CellTallies nD τ sig (HIx 1)) (W : Waits sig (HIx 1)) {sp : Space} {s' : Shape} {e' : EltTy} {srcw : Memref sig .scVector sp s' e'}
    {hsrc : srcw.view.WordExact} {hdst : bM.view.WordExact} {k : PUnit → Prog (TpuEff nD τ sig (Elt F) Λ₀ (thr d L).2) α} :
    iprop(FlB d L q f n ∗ OW d L O W ∗ Transfers.MayWaits (thr d L) (default : HIx 1) O)
      ⊢ iprop((iprop((xPts d L q f ∗ bPts d L (chV (tileX f (wid L)) n) ∗ semVal (thr d L, .dma cc0_scratch4.sem) 0) ∗ OW d L O W)
            -∗ wp frame (wpE (defs₀ (F := F)) 𝒱₀ (thr d L) none) Set.univ (k ⟨⟩) Q)
        -∗ wp frame (wpE (defs₀ (F := F)) 𝒱₀ (thr d L) none) Set.univ
            (.op (.waitDma2 cc0_scratch4.sem srcw bM hsrc hdst) k) Q) := by
  unfold FlB OW
  iintro ⟨⟨%S, Hf, Hxr⟩, ⟨%W', %hW', HO⟩, #Hmw⟩ Hk
  iapply (Transfers.wp_waitLocalO countersEmb 𝒱₀ (thr d L) none (default : HIx 1) (rfl : bM.view.dmaCredit = _)) $$ [Hf HO]
  · isplitl [Hf]; · iexact Hf
    isplitl [HO]; · iexact HO
    iapply (Transfers.MayWaits.elim (SemLoc.dma cc0_scratch4.sem)) $$ Hmw
  iintro ⟨⟨Ha, Hx⟩, Hs, HO⟩
  iapply Hk
  isplitl [Ha Hx Hs Hxr]
  · isplitl [Hx Hxr]
    · iapply (pointsTo_split_subset (q := q) (f := f) (S := Finset.univ) (Finset.subset_univ S)).2
      isplitl [Hx] <;> iassumption
    isplitl [Ha] <;> iassumption
  iexists _; isplitr
  swap; · iexact HO
  ipureintro; intro p hp
  rcases Finset.mem_insert.mp hp with hp | hp
  · exact .inr (hp ▸ rfl)
  · exact hW' p hp

end Cert.Proof.K
-- ==== Proof.Sweep.lean ====
/-
  The two sweeps over a tile's histogram: the one that zeroes it, and the one that sums its eight sub-histograms.
-/
module

public import proofs.«01_k».proof.Proof.Fetch

@[expose] public section

noncomputable section

namespace Cert.Proof.K

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F] (d : Dev nD) (L : grid0.Coords)

/-! ## Sixteen words stored -/

omit [FloatOps F] in
theorem store_in (g : Vec F S8192 .i32) (w : Vec F S16 .i32) (n : ℕ) {off : Fin 1 → ℕ} (ho : off = ![n]) (inb : ∀ a, off a + S16.size a ≤ S8192.size a)
    (p : S8192.Idx) (x : S16.Idx) (hp : (p 0).val = n + (x 0).val) :
    ((hM.access (Rect.unit (s := S8192) off S16.size inb)).write (Elt F) g w Finset.univ : Vec F S8192 .i32) p = w x := by
  subst ho
  have e : p = (hM.access (Rect.unit (s := S8192) ![n] S16.size inb)).emb x := by
    funext a; rw [Fin.eq_zero a]
    refine Fin.ext ?_
    show (p 0).val = n + 1 * (x 0).val
    omega
  rw [e]
  exact View.write_emb_of_mem (v := hM.access (Rect.unit (s := S8192) ![n] S16.size inb)) g w (Finset.mem_univ x)

omit [FloatOps F] in
theorem store_out (g : Vec F S8192 .i32) (w : Vec F S16 .i32) (n : ℕ) {off : Fin 1 → ℕ} (ho : off = ![n]) (inb : ∀ a, off a + S16.size a ≤ S8192.size a)
    (p : S8192.Idx) (hp : (p 0).val < n ∨ n + 16 ≤ (p 0).val) :
    ((hM.access (Rect.unit (s := S8192) off S16.size inb)).write (Elt F) g w Finset.univ : Vec F S8192 .i32) p = g p := by
  subst ho
  refine View.write_of_not_mem (v := hM.access (Rect.unit (s := S8192) ![n] S16.size inb)) g w Finset.univ ?_
  intro hm
  obtain ⟨x, -, hx⟩ := Finset.mem_map.mp hm
  have hx0 : (x 0).val < 16 := (x 0).isLt
  have : (p 0).val = n + 1 * (x 0).val := by rw [← hx]; rfl
  omega

omit [FloatOps F] in
theorem rd_h (g : Vec F S8192 .i32) (n : ℕ) {off : Fin 1 → ℕ} (ho : off = ![n]) (inb : ∀ a, off a + S16.size a ≤ S8192.size a) (x : S16.Idx) :
    (hM.view.readAt (Elt F) (Rect.unit (s := S8192) off S16.size inb).toLoadRect g : Vec F S16 .i32) x = g (wordH (n + (x 0).val)) := by
  subst ho
  have hb := inb 0
  change n + 16 ≤ 8192 at hb
  have hx0 : (x 0).val < 16 := (x 0).isLt
  show g _ = g _
  congr 1
  funext a; rw [Fin.eq_zero a]
  refine Fin.ext ?_
  show n + 1 * (x 0).val = (n + (x 0).val) % 8192
  omega

/-! ## The zeroing -/

/-- The histogram's first `n` words are zero. -/
def ZeroTo (n : ℕ) (g : Vec F S8192 .i32) : Prop := ∀ p : S8192.Idx, (p 0).val < n → g p = (0#32 : BitVec 32)

theorem t1_trips : k0_t1_loop.trips = 512 := by decide

theorem t1_trip (t : Fin k0_t1_loop.trips) :
    iprop(∃ g, ⌜ZeroTo (16 * t.val) g⌝ ∗ hPts d L g)
      ⊢ wp frame (wpE (defs₀ (F := F)) 𝒱₀ (thr d L) none) Set.univ (k0_t1_body L xM (Memref.isWhole_whole _) oM (Memref.isWhole_whole _) aM (Memref.isWhole_whole _) bM (Memref.isWhole_whole _)
            hM (Memref.isWhole_whole _) cc0_scratch3 cc0_scratch4 cc0_scoped0 t ())
          fun _ => iprop(∃ g, ⌜ZeroTo (16 * (t.val + 1)) g⌝ ∗ hPts d L g) := by
  unfold k0_t1_body
  iintro ⟨%g, %hg, Hh⟩
  iapply (wp_load 𝒱₀ (thr d L) none Set.univ (m := hM) (S := Finset.univ) (Finset.subset_univ _)) $$ Hh; iintro Hh
  iapply (wp_store 𝒱₀ (thr d L) none Set.univ (m := hM) (r := Rect.unit (s := S8192) (k0_off1 t) S16.size (k0_off1_inb t)) (Mk := Finset.univ) (S := Finset.univ) (Finset.subset_univ _)) $$ Hh; iintro Hh
  simp only [Prog.bind]
  sl_step
  iexists _
  isplitr
  swap; · iexact Hh
  ipureintro
  intro p hp
  by_cases h : (p 0).val < 16 * t.val
  · rw [store_out g _ (16 * t.val) (k0_off1_eq t) _ p (.inl h)]
    exact hg p h
  · have hx : (p 0).val - 16 * t.val < 16 := by omega
    let x : S16.Idx := fun a => ⟨(p 0).val - 16 * t.val, by rw [Fin.eq_zero a]; exact hx⟩
    have hx0 : (x 0).val = (p 0).val - 16 * t.val := rfl
    exact store_in g k0_pay18 (16 * t.val) (k0_off1_eq t) _ p x (by rw [hx0]; omega)

theorem t1_loop (g : Vec F S8192 .i32) :
    hPts d L g ⊢ wp frame (wpE (defs₀ (F := F)) 𝒱₀ (thr d L) none) Set.univ
      (Scf.Loop.for k0_t1_loop k0_t1_ok () (k0_t1_body L xM (Memref.isWhole_whole _) oM (Memref.isWhole_whole _) aM (Memref.isWhole_whole _) bM (Memref.isWhole_whole _)
            hM (Memref.isWhole_whole _) cc0_scratch3 cc0_scratch4 cc0_scoped0))
      fun _ => hPts d L fun _ => (0#32 : BitVec 32) := by
  iintro H
  iapply (Scf.wp_for frame (wpE (defs₀ (F := F)) 𝒱₀ (thr d L) none) Set.univ _ _ _ _ _ _
    (fun n _ => iprop(∃ g, ⌜ZeroTo (16 * n) g⌝ ∗ hPts d L g)) (fun t _ => t1_trip d L t))
  isplitl [H]
  · iexists g
    isplitr
    · ipureintro; intro p hp; exact absurd hp (by omega)
    iexact H
  iintro %_ ⟨%g, %hg, H⟩
  rw [show g = fun _ => (0#32 : BitVec 32) from funext fun p => hg p (by
    rw [show Scf.trips _ _ _ = 512 from t1_trips]; exact (p 0).isLt)]
  iexact H

/-! ## The sum of the sub-histograms -/

/-- The histogram with its first `n` words summed. -/
def sumV (h : Vec F S8192 .i32) (n : ℕ) : Vec F S8192 .i32 := fun p => if (p 0).val < n then sum8 (F := F) h (p 0).val else h p

omit [FloatOps F] in
theorem sumV_ge (h : Vec F S8192 .i32) (n k : ℕ) (hk : n ≤ k) (hk' : k < 8192) : sumV h n (wordH k) = h (wordH k) :=
  if_neg (by show ¬ k % 8192 < n; omega)

theorem t5_trips : k0_t5_loop.trips = 64 := by decide

set_option maxHeartbeats 4000000 in
theorem t5_trip (h : Vec F S8192 .i32) (t : Fin k0_t5_loop.trips) :
    hPts d L (sumV h (16 * t.val))
      ⊢ wp frame (wpE (defs₀ (F := F)) 𝒱₀ (thr d L) none) Set.univ (k0_t5_body L xM (Memref.isWhole_whole _) oM (Memref.isWhole_whole _) aM (Memref.isWhole_whole _) bM (Memref.isWhole_whole _)
            hM (Memref.isWhole_whole _) cc0_scratch3 cc0_scratch4 cc0_scoped0 t ())
          fun _ => hPts d L (sumV h (16 * (t.val + 1))) := by
  have ht : t.val < 64 := t5_trips ▸ t.isLt
  unfold k0_t5_body
  iintro Hh
  iapply (wp_load 𝒱₀ (thr d L) none Set.univ (m := hM) (S := Finset.univ) (Finset.subset_univ _)) $$ Hh; iintro Hh
  have hv0 := rd_h (sumV h (16 * t.val)) (16 * t.val) (k0_off22_eq t) (k0_off22_inb t)
  generalize (hM.view.readAt (Elt F) (Rect.unit (s := S8192) (k0_off22 t) S16.size (k0_off22_inb t)).toLoadRect (sumV h (16 * t.val)) : Vec F S16 .i32) = v0 at hv0 ⊢
  iapply (wp_load 𝒱₀ (thr d L) none Set.univ (m := hM) (S := Finset.univ) (Finset.subset_univ _)) $$ Hh; iintro Hh
  have hv1 := rd_h (sumV h (16 * t.val)) (1024 * 0 + 16 * t.val + 1024) (k0_off23_eq t 0) (k0_off23_inb t 0)
  generalize (hM.view.readAt (Elt F) (Rect.unit (s := S8192) (k0_off23 t 1024#32) S16.size (k0_off23_inb t 0)).toLoadRect (sumV h (16 * t.val)) : Vec F S16 .i32) = v1 at hv1 ⊢
  iapply (wp_load 𝒱₀ (thr d L) none Set.univ (m := hM) (S := Finset.univ) (Finset.subset_univ _)) $$ Hh; iintro Hh
  have hv2 := rd_h (sumV h (16 * t.val)) (1024 * 1 + 16 * t.val + 1024) (k0_off23_eq t 1) (k0_off23_inb t 1)
  generalize (hM.view.readAt (Elt F) (Rect.unit (s := S8192) (k0_off23 t 2048#32) S16.size (k0_off23_inb t 1)).toLoadRect (sumV h (16 * t.val)) : Vec F S16 .i32) = v2 at hv2 ⊢
  iapply (wp_load 𝒱₀ (thr d L) none Set.univ (m := hM) (S := Finset.univ) (Finset.subset_univ _)) $$ Hh; iintro Hh
  have hv3 := rd_h (sumV h (16 * t.val)) (1024 * 2 + 16 * t.val + 1024) (k0_off23_eq t 2) (k0_off23_inb t 2)
  generalize (hM.view.readAt (Elt F) (Rect.unit (s := S8192) (k0_off23 t 3072#32) S16.size (k0_off23_inb t 2)).toLoadRect (sumV h (16 * t.val)) : Vec F S16 .i32) = v3 at hv3 ⊢
  iapply (wp_load 𝒱₀ (thr d L) none Set.univ (m := hM) (S := Finset.univ) (Finset.subset_univ _)) $$ Hh; iintro Hh
  have hv4 := rd_h (sumV h (16 * t.val)) (1024 * 3 + 16 * t.val + 1024) (k0_off23_eq t 3) (k0_off23_inb t 3)
  generalize (hM.view.readAt (Elt F) (Rect.unit (s := S8192) (k0_off23 t 4096#32) S16.size (k0_off23_inb t 3)).toLoadRect (sumV h (16 * t.val)) : Vec F S16 .i32) = v4 at hv4 ⊢
  iapply (wp_load 𝒱₀ (thr d L) none Set.univ (m := hM) (S := Finset.univ) (Finset.subset_univ _)) $$ Hh; iintro Hh
  have hv5 := rd_h (sumV h (16 * t.val)) (1024 * 4 + 16 * t.val + 1024) (k0_off23_eq t 4) (k0_off23_inb t 4)
  generalize (hM.view.readAt (Elt F) (Rect.unit (s := S8192) (k0_off23 t 5120#32) S16.size (k0_off23_inb t 4)).toLoadRect (sumV h (16 * t.val)) : Vec F S16 .i32) = v5 at hv5 ⊢
  iapply (wp_load 𝒱₀ (thr d L) none Set.univ (m := hM) (S := Finset.univ) (Finset.subset_univ _)) $$ Hh; iintro Hh
  have hv6 := rd_h (sumV h (16 * t.val)) (1024 * 5 + 16 * t.val + 1024) (k0_off23_eq t 5) (k0_off23_inb t 5)
  generalize (hM.view.readAt (Elt F) (Rect.unit (s := S8192) (k0_off23 t 6144#32) S16.size (k0_off23_inb t 5)).toLoadRect (sumV h (16 * t.val)) : Vec F S16 .i32) = v6 at hv6 ⊢
  iapply (wp_load 𝒱₀ (thr d L) none Set.univ (m := hM) (S := Finset.univ) (Finset.subset_univ _)) $$ Hh; iintro Hh
  have hv7 := rd_h (sumV h (16 * t.val)) (1024 * 6 + 16 * t.val + 1024) (k0_off23_eq t 6) (k0_off23_inb t 6)
  generalize (hM.view.readAt (Elt F) (Rect.unit (s := S8192) (k0_off23 t 7168#32) S16.size (k0_off23_inb t 6)).toLoadRect (sumV h (16 * t.val)) : Vec F S16 .i32) = v7 at hv7 ⊢
  iapply (wp_load 𝒱₀ (thr d L) none Set.univ (m := hM) (S := Finset.univ) (Finset.subset_univ _)) $$ Hh; iintro Hh
  iapply (wp_store 𝒱₀ (thr d L) none Set.univ (m := hM) (r := Rect.unit (s := S8192) (k0_off22 t) S16.size (k0_off22_inb t)) (Mk := Finset.univ) (S := Finset.univ) (Finset.subset_univ _)) $$ Hh; iintro Hh
  simp only [Prog.bind]
  sl_step
  rw [show ((hM.access (Rect.unit (s := S8192) (k0_off22 t) S16.size (k0_off22_inb t))).write (Elt F) (sumV h (16 * t.val)) (k0_pay1 v0 v1 v2 v3 v4 v5 v6 v7) Finset.univ : Vec F S8192 .i32)
      = sumV h (16 * (t.val + 1)) from ?_]
  · iexact Hh
  funext p
  by_cases hlt : (p 0).val < 16 * t.val
  · rw [store_out _ _ (16 * t.val) (k0_off22_eq t) _ p (.inl hlt)]
    unfold sumV
    rw [if_pos hlt, if_pos (by omega)]
  by_cases hge : 16 * t.val + 16 ≤ (p 0).val
  · rw [store_out _ _ (16 * t.val) (k0_off22_eq t) _ p (.inr hge)]
    unfold sumV
    rw [if_neg (by omega), if_neg (by omega)]
  · have hx : (p 0).val - 16 * t.val < 16 := by omega
    let x : S16.Idx := fun a => ⟨(p 0).val - 16 * t.val, by rw [Fin.eq_zero a]; exact hx⟩
    have hx0 : (x 0).val = (p 0).val - 16 * t.val := rfl
    rw [store_in _ _ (16 * t.val) (k0_off22_eq t) _ p x (by rw [hx0]; omega)]
    unfold sumV
    rw [if_pos (by omega)]
    show v0 x + v1 x + v2 x + v3 x + v4 x + v5 x + v6 x + v7 x = _
    rw [hv0, hv1, hv2, hv3, hv4, hv5, hv6, hv7, hx0]
    rw [sumV_ge _ _ _ (by omega) (by omega), sumV_ge _ _ _ (by omega) (by omega), sumV_ge _ _ _ (by omega) (by omega), sumV_ge _ _ _ (by omega) (by omega),
      sumV_ge _ _ _ (by omega) (by omega), sumV_ge _ _ _ (by omega) (by omega), sumV_ge _ _ _ (by omega) (by omega), sumV_ge _ _ _ (by omega) (by omega)]
    unfold sum8
    have e0 : 16 * t.val + ((p 0).val - 16 * t.val) = (p 0).val := by omega
    have e1 : 1024 * 0 + 16 * t.val + 1024 + ((p 0).val - 16 * t.val) = 1024 + (p 0).val := by omega
    have e2 : 1024 * 1 + 16 * t.val + 1024 + ((p 0).val - 16 * t.val) = 2048 + (p 0).val := by omega
    have e3 : 1024 * 2 + 16 * t.val + 1024 + ((p 0).val - 16 * t.val) = 3072 + (p 0).val := by omega
    have e4 : 1024 * 3 + 16 * t.val + 1024 + ((p 0).val - 16 * t.val) = 4096 + (p 0).val := by omega
    have e5 : 1024 * 4 + 16 * t.val + 1024 + ((p 0).val - 16 * t.val) = 5120 + (p 0).val := by omega
    have e6 : 1024 * 5 + 16 * t.val + 1024 + ((p 0).val - 16 * t.val) = 6144 + (p 0).val := by omega
    have e7 : 1024 * 6 + 16 * t.val + 1024 + ((p 0).val - 16 * t.val) = 7168 + (p 0).val := by omega
    rw [e0, e1, e2, e3, e4, e5, e6, e7]

theorem t5_loop (h : Vec F S8192 .i32) :
    hPts d L h ⊢ wp frame (wpE (defs₀ (F := F)) 𝒱₀ (thr d L) none) Set.univ
      (Scf.Loop.for k0_t5_loop k0_t5_ok () (k0_t5_body L xM (Memref.isWhole_whole _) oM (Memref.isWhole_whole _) aM (Memref.isWhole_whole _) bM (Memref.isWhole_whole _)
            hM (Memref.isWhole_whole _) cc0_scratch3 cc0_scratch4 cc0_scoped0))
      fun _ => hPts d L (sumV h 1024) := by
  iintro H
  iapply (Scf.wp_for frame (wpE (defs₀ (F := F)) 𝒱₀ (thr d L) none) Set.univ _ _ _ _ _ _
    (fun n _ => hPts d L (sumV h (16 * n))) (fun t _ => t5_trip d L h t))
  isplitl [H]
  · rw [show sumV h (16 * 0) = h from funext fun p => if_neg (by omega)]
    iexact H
  iintro %_ H
  rw [show Scf.trips _ _ _ = 64 from t5_trips]
  iexact H

end Cert.Proof.K
-- ==== Proof.Chunks.lean ====
/-
  A tile's task: its chunks fetched and counted, two at a time.
-/
module

public import proofs.«01_k».proof.Proof.Sweep

@[expose] public section

noncomputable section

namespace Cert.Proof.K

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F] (d : Dev nD) (L : grid0.Coords)

omit [FloatOps F] in
theorem ret_bind {α β : Type} (a : α) (k : α → Prog (TpuEff nD τ sig (Elt F) Λ₀ (thr d L).2) β) : (Prog.ret a).bind k = k a := rfl

theorem one_off {a b : ℕ} (h : a = b) : (![a] : Fin 1 → ℕ) = ![b] := by rw [h]

theorem t2_trips : k0_t2_loop.trips = 32 := by decide

theorem cond1_iff : ∀ t : Fin k0_t2_loop.trips, k0_cond1 t = 1#1 ↔ t.val < 31 := by decide
theorem cond2_iff : ∀ t : Fin k0_t2_loop.trips, k0_cond2 t = 1#1 ↔ t.val < 31 := by decide

/-- What a tile holds before trip `k` over its chunks: chunks `2k` and `2k + 1` on their way, the chunks before them counted. -/
def Inv2 (qa qb : PosShare TreeShare) (f : Vec F S33554432 .f32) (O : CellTallies nD τ sig (HIx 1)) (W : Waits sig (HIx 1)) (k : ℕ) : sProp 𝕄 :=
  iprop(hPts d L (hstV (F := F) (keyN (tileX f (wid L))) (32768 * k)) ∗ OW d L O W ∗ Transfers.MayWaits (thr d L) (default : HIx 1) O
    ∗ (if k < 32 then FlA d L qa f (2 * k) else IdleA d L qa f) ∗ (if k < 32 then FlB d L qb f (2 * k + 1) else IdleB d L qb f))

set_option maxHeartbeats 2000000 in
theorem t2_trip (qa qb : PosShare TreeShare) (f : Vec F S33554432 .f32) (O : CellTallies nD τ sig (HIx 1)) (W : Waits sig (HIx 1)) (t : Fin k0_t2_loop.trips) :
    Inv2 d L qa qb f O W t.val
      ⊢ wp frame (wpE (defs₀ (F := F)) 𝒱₀ (thr d L) none) Set.univ (k0_t2_body L xM (Memref.isWhole_whole _) oM (Memref.isWhole_whole _) aM (Memref.isWhole_whole _) bM (Memref.isWhole_whole _)
            hM (Memref.isWhole_whole _) cc0_scratch3 cc0_scratch4 cc0_scoped0 t ())
          fun _ => Inv2 d L qa qb f O W (t.val + 1) := by
  have ht : t.val < 32 := lt_of_lt_of_eq t.isLt t2_trips
  unfold k0_t2_body Inv2
  rw [if_pos ht, if_pos ht]
  iintro ⟨Hh, HO, #Hmw, HA, HB⟩
  iapply (wait_a d L qa f (2 * t.val) O W) $$ [HA HO]
  · isplitl [HA]; · iexact HA
    isplitl [HO]; · iexact HO
    iexact Hmw
  iintro ⟨⟨Hxa, Ha, Hsa⟩, HO⟩
  rw [show 32768 * t.val = 16384 * (2 * t.val) by omega, ret_bind, wp_bind]
  iapply wp_wand_r
  isplitl [Ha Hh]
  · iapply (t3_loop d L (tileX f (wid L)) (2 * t.val))
    isplitl [Ha] <;> iassumption
  iintro %_ ⟨Ha, Hh⟩
  rw [show 16384 * (2 * t.val + 1) = 16384 * (2 * t.val + 1) from rfl]
  by_cases hlt : t.val < 31
  · have h1 : k0_cond1 t = 1#1 := (cond1_iff t).mpr hlt
    have h2 : k0_cond2 t = 1#1 := (cond2_iff t).mpr hlt
    rw [dif_pos h1, dif_pos h2, if_pos (by omega), if_pos (by omega)]
    iapply (start_a d L qa f (2 * (t.val + 1)) (off := k0_off12 L t) ((k0_off12_eq L t).trans (one_off (by unfold wid; omega)))) $$ [Hxa Ha Hsa]
    · unfold IdleA
      isplitl [Hxa]; · iexact Hxa
      isplitl [Ha]; · iexists _; iexact Ha
      iexact Hsa
    iintro HA
    iapply (wait_b d L qb f (2 * t.val + 1) O W) $$ [HB HO]
    · isplitl [HB]; · iexact HB
      isplitl [HO]; · iexact HO
      iexact Hmw
    iintro ⟨⟨Hxb, Hb, Hsb⟩, HO⟩
    rw [ret_bind, wp_bind]
    iapply wp_wand_r
    isplitl [Hb Hh]
    · iapply (t4_loop d L (tileX f (wid L)) (2 * t.val + 1))
      isplitl [Hb] <;> iassumption
    iintro %_ ⟨Hb, Hh⟩
    iapply (start_b d L qb f (2 * (t.val + 1) + 1) (off := k0_off21 L t) ((k0_off21_eq L t).trans (one_off (by unfold wid; omega)))) $$ [Hxb Hb Hsb]
    · unfold IdleB
      isplitl [Hxb]; · iexact Hxb
      isplitl [Hb]; · iexists _; iexact Hb
      iexact Hsb
    iintro HB
    simp only [Prog.bind]
    sl_step
    rw [show 32768 * (t.val + 1) = 16384 * (2 * t.val + 1 + 1) by omega]
    isplitl [Hh]; · iexact Hh
    isplitl [HO]; · iexact HO
    isplitr; · iexact Hmw
    isplitl [HA] <;> iassumption
  · have h1 : ¬ k0_cond1 t = 1#1 := fun h => hlt ((cond1_iff t).mp h)
    have h2 : ¬ k0_cond2 t = 1#1 := fun h => hlt ((cond2_iff t).mp h)
    rw [dif_neg h1, dif_neg h2, if_neg (by omega), if_neg (by omega)]
    iapply (wait_b d L qb f (2 * t.val + 1) O W) $$ [HB HO]
    · isplitl [HB]; · iexact HB
      isplitl [HO]; · iexact HO
      iexact Hmw
    iintro ⟨⟨Hxb, Hb, Hsb⟩, HO⟩
    rw [ret_bind, wp_bind]
    iapply wp_wand_r
    isplitl [Hb Hh]
    · iapply (t4_loop d L (tileX f (wid L)) (2 * t.val + 1))
      isplitl [Hb] <;> iassumption
    iintro %_ ⟨Hb, Hh⟩
    simp only [Prog.bind]
    sl_step
    rw [show 32768 * (t.val + 1) = 16384 * (2 * t.val + 1 + 1) by omega]
    isplitl [Hh]; · iexact Hh
    isplitl [HO]; · iexact HO
    isplitr; · iexact Hmw
    unfold IdleA IdleB
    isplitl [Hxa Ha Hsa]
    · isplitl [Hxa]; · iexact Hxa
      isplitl [Ha]; · iexists _; iexact Ha
      iexact Hsa
    · isplitl [Hxb]; · iexact Hxb
      isplitl [Hb]; · iexists _; iexact Hb
      iexact Hsb

theorem t2_loop (qa qb : PosShare TreeShare) (f : Vec F S33554432 .f32) (O : CellTallies nD τ sig (HIx 1)) (W : Waits sig (HIx 1)) :
    Inv2 d L qa qb f O W 0 ⊢ wp frame (wpE (defs₀ (F := F)) 𝒱₀ (thr d L) none) Set.univ
      (Scf.Loop.for k0_t2_loop k0_t2_ok () (k0_t2_body L xM (Memref.isWhole_whole _) oM (Memref.isWhole_whole _) aM (Memref.isWhole_whole _) bM (Memref.isWhole_whole _)
            hM (Memref.isWhole_whole _) cc0_scratch3 cc0_scratch4 cc0_scoped0))
      fun _ => Inv2 d L qa qb f O W 32 := by
  iintro H
  iapply (Scf.wp_for frame (wpE (defs₀ (F := F)) 𝒱₀ (thr d L) none) Set.univ _ _ _ _ _ _
    (fun n _ => Inv2 d L qa qb f O W n) (fun t _ => t2_trip d L qa qb f O W t))
  isplitl [H]; · iexact H
  iintro %_ H
  rw [show Scf.trips _ _ _ = 32 from t2_trips]
  iexact H

/-- All of a tile's chunks counted. -/
theorem part5 (qa qb : PosShare TreeShare) (f : Vec F S33554432 .f32) (g : Vec F S8192 .i32) (O : CellTallies nD τ sig (HIx 1)) (W : Waits sig (HIx 1)) :
    iprop(hPts d L g ∗ OW d L O W ∗ Transfers.MayWaits (thr d L) (default : HIx 1) O ∗ IdleA d L qa f ∗ IdleB d L qb f)
      ⊢ wp frame (wpE (defs₀ (F := F)) 𝒱₀ (thr d L) none) Set.univ (k0_part5 L xM (Memref.isWhole_whole _) oM (Memref.isWhole_whole _) aM (Memref.isWhole_whole _) bM (Memref.isWhole_whole _)
            hM (Memref.isWhole_whole _) cc0_scratch3 cc0_scratch4 cc0_scoped0)
          fun _ => iprop(hPts d L (hstV (F := F) (keyN (tileX f (wid L))) 1048576) ∗ OW d L O W ∗ Transfers.MayWaits (thr d L) (default : HIx 1) O ∗ IdleA d L qa f ∗ IdleB d L qb f) := by
  simp only [k0_part5_eq_skeleton]; unfold k0_part5_skel
  iintro ⟨Hh, HO, #Hmw, HA, HB⟩
  rw [wp_bind]
  iapply wp_wand_r
  isplitl [Hh]
  · iapply (t1_loop d L g); iexact Hh
  iintro %_ Hh
  iapply (start_a d L qa f (2 * 0) (off := k0_off2 L 0#32) ((k0_off2_eq L 0).trans (one_off (by unfold wid; simp; omega)))) $$ [HA]
  · iexact HA
  iintro HA
  iapply (start_b d L qb f (2 * 0 + 1) (off := k0_off2 L 16384#32) ((k0_off2_eq L 1).trans (one_off (by unfold wid; simp; omega)))) $$ [HB]
  · iexact HB
  iintro HB
  rw [ret_bind, wp_bind]
  iapply wp_wand_r
  isplitl [Hh HO HA HB]
  · iapply (t2_loop d L qa qb f O W)
    unfold Inv2
    rw [if_pos (by omega), if_pos (by omega), show 32768 * 0 = 0 from rfl, hstV_zero]
    isplitl [Hh]; · iexact Hh
    isplitl [HO]; · iexact HO
    isplitr; · iexact Hmw
    isplitl [HA] <;> iassumption
  unfold Inv2
  rw [if_neg (by omega), if_neg (by omega)]
  iintro %_ H
  simp only [Prog.bind]
  sl_step
  iexact H

end Cert.Proof.K
-- ==== Proof.Row.lean ====
/-
  A tile's whole task, from its share of the input and its row of the output.
-/
module

public import proofs.«01_k».proof.Proof.Chunks

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F] (d : Dev nD) (L : grid0.Coords)

/-! ## Its row of the output -/

theorem odiv : 32 ∣ S32x1024.size 0 := ⟨1, rfl⟩
abbrev orow (w : Fin 32) : Rect S32x1024 := Rect.part (s := S32x1024) (a₀ := 0) odiv w
abbrev oRowSet (w : Fin 32) : Finset S32x1024.Idx := (oM.view.slice (orow w)).set

/-- The tile's number, as a row. -/
def widF : Fin 32 := ⟨wid L, by
  have h0 : (L 0).val < 2 := (L 0).isLt
  have h1 : (L 1).val < 16 := (L 1).isLt
  unfold wid; omega⟩

abbrev orowK : Rect S32x1024 := Rect.unit (s := S32x1024) (k0_off24 L) S1x1024.size (k0_off24_inb L)
abbrev oRowK : Memref sig .scVector .hbm S1024 .i32 := (oM.slice (orowK L) (fun _ => rfl)).squeeze S1024 squeezes_S1x1024_S1024
abbrev h0M : Memref sig .scVector .vmem S1024 .i32 := hM.slice (Rect.unit (s := S8192) ![0] S1024.size inb_S8192_S1024_0) (fun _ => rfl)

theorem orowK_eq : orowK L = orow (widF L) := by
  unfold orowK orow Rect.part Rect.block
  congr 1 <;> funext a
  · rw [k0_off24_eq]
    match a with
    | 0 => simp [Shape.partIx, Shape.partSize, widF, wid]
    | 1 => simp [Shape.partIx, Shape.partSize]
  · match a with
    | 0 => simp [Shape.partSize]
    | 1 => simp [Shape.partSize]

theorem set_oRowK : (oRowK L).view.set = oRowSet (widF L) := by
  show ((oM.view.slice (orowK L)).reshape S1024 squeezes_S1x1024_S1024.numel_eq).set = (oM.view.slice (orow (widF L))).set
  rw [View.set_reshape]
  exact orowK_eq L ▸ rfl

omit [FloatOps F] in
theorem pts_oRowK (f : Buf (Elt F) (oLoc d)) :
    ((oRowK L).view.loc (thr d L) ↦[(oRowK L).view.set]{fullShare} f : sProp 𝕄) = oLoc d ↦[oRowSet (widF L)]{fullShare} f := by
  rw [set_oRowK]

/-- Word `x` of the row is at row `wid`, column `x`. -/
theorem oRowK_emb (x : S1024.Idx) : ((oRowK L).view.emb x 0).val = wid L ∧ ((oRowK L).view.emb x 1).val = (x 0).val := by
  have e : Shape.reshapeEquiv squeezes_S1x1024_S1024.numel_eq x = (Fin.cons ⟨0, Nat.one_pos⟩ x : S1x1024.Idx) := Shape.reshapeEquiv_cons_one (d := ![1024]) _ x
  have e' : (oRowK L).view.emb x = (orowK L).emb (Fin.cons ⟨0, Nat.one_pos⟩ x : S1x1024.Idx) := by rw [← e]; rfl
  rw [e']
  constructor
  · show k0_off24 L 0 + 1 * 0 = _
    rw [k0_off24_eq]; rfl
  · show k0_off24 L 1 + 1 * (x 0).val = _
    rw [k0_off24_eq]
    show 0 + 1 * (x 0).val = _
    omega

theorem landed (f : Vec F S33554432 .f32) (o : Vec F S32x1024 .i32) (g : Vec F S1024 .i32)
    (hg : ∀ x : S1024.Idx, g x = sum8 (F := F) (hstV (F := F) (keyN (tileX f (wid L))) 1048576) (x 0).val) :
    ((oRowK L).view.loc (thr d L) ↦[(oRowK L).view.set]{fullShare} (oRowK L).view.write (Elt F) o g Finset.univ : sProp 𝕄)
      = oLoc d ↦[oRowSet (widF L)]{fullShare} outF f := by
  rw [← pts_oRowK]
  refine pointsTo_congr fun i hi => ?_
  obtain ⟨x, -, rfl⟩ := Finset.mem_map.mp hi
  rw [View.write_emb_of_mem (v := (oRowK L).view) o g (Finset.mem_univ x)]
  show g x = outF f _
  rw [hg]
  unfold outF
  rw [(oRowK_emb L x).1, (oRowK_emb L x).2]

omit [FloatOps F] in
theorem h0_read (h : Vec F S8192 .i32) (x : S1024.Idx) : ((h0M).view.read (Elt F) (sumV h 1024) : Vec F S1024 .i32) x = sum8 (F := F) h (x 0).val := by
  have hx : (x 0).val < 1024 := (x 0).isLt
  show sumV h 1024 _ = _
  unfold sumV
  have e : ∀ y : S8192.Idx, (y 0).val = (x 0).val → (if (y 0).val < 1024 then sum8 (F := F) h (y 0).val else h y) = sum8 (F := F) h (x 0).val := by
    intro y hy; rw [hy, if_pos hx]
  exact e _ (by show 0 + 1 * (x 0).val = _; omega)

end Cert.Proof.K
-- ==== Proof.Tile.lean ====
/-
  A tile's task as the launch asks for it.
-/
module

public import proofs.«01_k».proof.Proof.Row

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F] (d : Dev nD) (L : grid0.Coords)

/-! ## Its semaphores and its buffers -/

abbrev semA (d : Dev nD) (c : Fin τ.nSC) (i : Fin τ.nSub) : GSem nD τ sig := (V d c i, .dma cc0_scratch3.sem)
abbrev semB (d : Dev nD) (c : Fin τ.nSC) (i : Fin τ.nSub) : GSem nD τ sig := (V d c i, .dma cc0_scratch4.sem)
abbrev semC (d : Dev nD) (c : Fin τ.nSC) (i : Fin τ.nSub) : GSem nD τ sig := (V d c i, .dma cc0_scoped0.sem)

omit [FloatOps F] in
theorem ownSems0_V :
    (ownSems0 (thr d L) : sProp 𝕄)
      = iprop(semVal (semA d (cV L) (jV L)) 0 ∗ semVal (semB d (cV L) (jV L)) 0 ∗ semVal (semC d (cV L) (jV L)) 0
          ∗ bigSep ((((ownCells (thr d L)).erase (semA d (cV L) (jV L))).erase (semB d (cV L) (jV L))).erase (semC d (cV L) (jV L))) fun g => semVal g 0) := by
  unfold SparseCore.Cfg.ownSems0
  rw [SparseCore.bigSep_erase' ((mem_ownCells (g := semA d (cV L) (jV L))).mpr ⟨rfl, by
      show (SemLoc.dma cc0_scratch3.sem : SemLoc sig).isScoped .scVector = true; decide⟩),
    SparseCore.bigSep_erase' (Finset.mem_erase.mpr ⟨by simp [semA, semB]; decide, (mem_ownCells (g := semB d (cV L) (jV L))).mpr ⟨rfl, by
      show (SemLoc.dma cc0_scratch4.sem : SemLoc sig).isScoped .scVector = true; decide⟩⟩),
    SparseCore.bigSep_erase' (Finset.mem_erase.mpr ⟨by simp [semB, semC]; decide, Finset.mem_erase.mpr ⟨by simp [semA, semC]; decide,
      (mem_ownCells (g := semC d (cV L) (jV L))).mpr ⟨rfl, by show (SemLoc.dma cc0_scoped0.sem : SemLoc sig).isScoped .scVector = true; decide⟩⟩⟩)]

abbrev refA (L : grid0.Coords) : DevRef τ sig := (Proc.scVector (cV L) (jV L)).devRef cc0_scratch0
abbrev refB (L : grid0.Coords) : DevRef τ sig := (Proc.scVector (cV L) (jV L)).devRef cc0_scratch1
abbrev refH (L : grid0.Coords) : DevRef τ sig := (Proc.scVector (cV L) (jV L)).devRef cc0_scratch2

omit [FloatOps F] in
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f)
          ∗ bigSep ((((ownRefs (τ := τ) (.scVector (cV L) (jV L))).erase (refA L)).erase (refB L)).erase (refH L))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := refA L) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := refB L) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
        SparseCore.Cfg.mem_ownRefs_of_owner (p := Proc.scVector (cV L) (jV L)) (b := refH L) rfl⟩⟩)]

/-- What a tile takes: its share of the input, and its row of the output at given contents. -/
abbrev tileG (d : Dev nD) (q : PosShare TreeShare) (w : Fin 32) (f : Vec F S33554432 .f32) (o : Vec F S32x1024 .i32) : sProp 𝕄 :=
  iprop((xLoc d ↦{q} f) ∗ (oLoc d ↦[oRowSet w]{fullShare} o))

set_option maxHeartbeats 4000000 in
theorem tile_body (hF : (K (F := F)).Facts) (q : PosShare TreeShare) (f : Vec F S33554432 .f32) (o : Vec F S32x1024 .i32)
    (O : CellTallies nD τ sig (HIx 1)) (W : Waits sig (HIx 1)) (hO : ∀ g, O g none = 0) :
    iprop(levAts (K (F := F)).L (K (F := F)).lev ∗ emp ∗ tileG d q (widF L) f o ∗ scopedBufs (thr d L) ∗ scopedSems0 (thr d L) ∗ owes (thr d L) O W)
      ⊢ wp frame (wpE (defs₀ (F := F)) 𝒱₀ (thr d L) none) Set.univ (cc0__sc_body L xM (Memref.isWhole_whole _) oM (Memref.isWhole_whole _) aM (Memref.isWhole_whole _) bM (Memref.isWhole_whole _)
            hM (Memref.isWhole_whole _) cc0_scratch3 cc0_scratch4 cc0_scoped0)
          fun _ => iprop(tileG d q (widF L) f (outF f) ∗ scopedBufs (thr d L) ∗ scopedSems0 (thr d L)
            ∗ ∃ W', ⌜∀ p ∈ W', p ∈ W ∨ p.2 = none⌝ ∗ owes (thr d L) O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨⟨%fa, Ha⟩, ⟨%fb, Hb⟩, ⟨%fh, Hh⟩, Hbufs⟩, ⟨HsA, HsB, HsC, Hsems⟩, HO⟩
  ihave Hmw := (show levAts (K (F := F)).L (K (F := F)).lev ⊢ Transfers.MayWaits (thr d L) (default : HIx 1) O from
    (K (F := F)).mayWaits_none (thr := thr d L) hO) $$ Hlv
  ihave Hx := (pointsTo_share (PosShare.mem_left_op_right q)).1 $$ Hx
  icases Hx with ⟨Hxa, Hxb⟩
  rw [wp_bind]
  iapply wp_wand_r
  isplitl [Hxa Hxb Ha Hb Hh HsA HsB HO Hmw]
  · iapply (part5 d L q.left q.right f fh O W)
    unfold OW IdleA IdleB
    isplitl [Hh]; · iexact Hh
    isplitl [HO]
    · iexists W; isplitr
      · ipureintro; exact fun p hp => .inl hp
      iexact HO
    isplitl [Hmw]; · iexact Hmw
    isplitl [Hxa Ha HsA]
    · isplitl [Hxa]; · iexact Hxa
      isplitl [Ha]; · iexists _; iexact Ha
      iexact HsA
    · isplitl [Hxb]; · iexact Hxb
      isplitl [Hb]; · iexists _; iexact Hb
      iexact HsB
  unfold OW IdleA IdleB
  iintro %_ ⟨Hh, ⟨%W1, %hW1, HO⟩, #Hmw, ⟨Hxa, ⟨%ga, Ha⟩, HsA⟩, ⟨Hxb, ⟨%gb, Hb⟩, HsB⟩⟩
  rw [wp_bind]
  iapply wp_wand_r
  isplitl [Hh]
  · iapply (t5_loop d L); iexact Hh
  iintro %_ Hh
  ihave Hh := (pointsTo_split_subset (ℓ := hM.view.loc (thr d L)) (q := fullShare) (f := sumV (hstV (F := F) (keyN (tileX f (wid L))) 1048576) 1024) (S := Finset.univ) (Finset.subset_univ (h0M).view.set)).1 $$ Hh
  icases Hh with ⟨Hh, Hhr⟩
  ihave Ho := (Entails.of_eq (pts_oRowK (F := F) d L _).symm) $$ Ho
  iapply (Transfers.wp_dmaLocal countersEmb 𝒱₀ (thr d L) none (src := h0M) (dst := oRowK L) (Sd := (oRowK L).view.set) (default : HIx 1)
      (oRowK L).view.dmaCredit rfl (View.dmaCredit_pos _ (by decide)) (Finset.Subset.refl _)) $$ [Hh Ho HsC]
  · isplitl [Hh]; · iexact Hh
    isplitl [Ho]; · iexact Ho
    iexact HsC
  iintro Hf
  rw [ret_bind]
  iapply (Transfers.wp_waitLocalO countersEmb 𝒱₀ (thr d L) none (default : HIx 1) (rfl : (oRowK L).view.dmaCredit = _)) $$ [Hf HO]
  · isplitl [Hf]; · iexact Hf
    isplitl [HO]; · iexact HO
    iapply (Transfers.MayWaits.elim (SemLoc.dma cc0_scoped0.sem)) $$ Hmw
  iintro ⟨⟨Ho, Hh⟩, HsC, HO⟩
  ihave Ho := (Entails.of_eq (landed (F := F) d L f o _ (fun x => h0_read (F := F) _ x))) $$ Ho
  ihave Hh := (pointsTo_split_subset (ℓ := hM.view.loc (thr d L)) (q := fullShare) (f := sumV (hstV (F := F) (keyN (tileX f (wid L))) 1048576) 1024) (S := Finset.univ) (Finset.subset_univ (h0M).view.set)).2 $$ [Hh Hhr]
  · isplitl [Hh] <;> iassumption
  simp only [Prog.bind]
  sl_step
  isplitl [Hxa Hxb Ho]
  · isplitl [Hxa Hxb]
    · iapply (pointsTo_share (PosShare.mem_left_op_right q)).2
      isplitl [Hxa] <;> iassumption
    iexact Ho
  isplitl [Ha Hb Hh Hbufs]
  · isplitl [Ha]; · iexists _; iexact Ha
    isplitl [Hb]; · iexists _; iexact Hb
    isplitl [Hh]; · iexists _; iexact Hh
    iexact Hbufs
  isplitl [HsA HsB HsC Hsems]
  · isplitl [HsA]; · iexact HsA
    isplitl [HsB]; · iexact HsB
    isplitl [HsC]; · iexact HsC
    iexact Hsems
  iexists _; isplitr
  swap; · iexact HO
  ipureintro; intro p hp
  rcases Finset.mem_insert.mp hp with hp | hp
  · exact .inr (hp ▸ rfl)
  · exact hW1 p hp

end Cert.Proof.K
-- ==== Proof.Pay.lean ====
/-
  What the call hands each core and tile, and what they bring back.
-/
module

public import proofs.«01_k».proof.Proof.Tile

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable (m : (ℓ : Loc nD τ sig) → Buf (Elt F) ℓ)

/-! ## Who holds what -/

/-- The row of tile `i` of core `c`. -/
def row (c : Fin 2) (i : Fin 16) : Fin 32 := ⟨2 * i.val + c.val, by omega⟩

/-- The rows a core's tiles write. -/
def coreSet (c : Fin 2) : Finset S32x1024.Idx := Finset.univ.biUnion fun i : Fin 16 => oRowSet (row c i)

/-- A core's share of the input, and a tile's share of its core's. -/
abbrev cq (c : Fin 2) : PosShare TreeShare := Transfers.shareTok fullShare 2 c
abbrev tq (c : Fin 2) (i : Fin 16) : PosShare TreeShare := Transfers.shareTok (cq c) 16 i

theorem row_injective {c c' : Fin 2} {i i' : Fin 16} (h : row c i = row c' i') : c = c' ∧ i = i' := by
  have e : 2 * i.val + c.val = 2 * i'.val + c'.val := congrArg Fin.val h
  exact ⟨Fin.ext (by omega), Fin.ext (by omega)⟩

theorem oRowSet_eq (w : Fin 32) : oRowSet w = (orow w).set := by
  show ((View.whole (main_v0_scv : Ref sig .scVector)).slice (orow w)).set = _
  rw [View.set_slice]; exact Finset.map_refl

theorem oRowSet_disjoint {v w : Fin 32} (h : v ≠ w) : Disjoint (oRowSet v) (oRowSet w) := by
  rw [oRowSet_eq, oRowSet_eq]; exact Rect.part_disjoint odiv h

theorem rows_disjoint (c : Fin 2) : ∀ i ∈ (Finset.univ : Finset (Fin 16)), ∀ j ∈ (Finset.univ : Finset (Fin 16)), i ≠ j →
    Disjoint (oRowSet (row c i)) (oRowSet (row c j)) :=
  fun _ _ _ _ h => oRowSet_disjoint fun e => h (row_injective e).2

theorem cores_disjoint : ∀ c ∈ (Finset.univ : Finset (Fin 2)), ∀ c' ∈ (Finset.univ : Finset (Fin 2)), c ≠ c' →
    Disjoint (coreSet c) (coreSet c') := fun _ _ _ _ h => by
  unfold coreSet
  rw [Finset.disjoint_biUnion_left]; intro i _
  rw [Finset.disjoint_biUnion_right]; intro j _
  exact oRowSet_disjoint fun e => h (row_injective e).1

theorem cores_cover : (Finset.univ : Finset (Fin 2)).biUnion coreSet = Finset.univ := by
  refine Finset.eq_univ_iff_forall.mpr fun p => ?_
  have hp : p ∈ (Finset.univ : Finset (Fin 32)).biUnion fun w => (orow w).set := by
    rw [Rect.biUnion_part odiv]; exact Finset.mem_univ _
  obtain ⟨w, -, hw⟩ := Finset.mem_biUnion.mp hp
  refine Finset.mem_biUnion.mpr ⟨⟨w.val % 2, Nat.mod_lt _ (by decide)⟩, Finset.mem_univ _, ?_⟩
  unfold coreSet
  refine Finset.mem_biUnion.mpr ⟨⟨w.val / 2, by omega⟩, Finset.mem_univ _, ?_⟩
  have e : row ⟨w.val % 2, Nat.mod_lt _ (by decide)⟩ ⟨w.val / 2, by omega⟩ = w := Fin.ext (Nat.div_add_mod w.val 2)
  rw [oRowSet_eq, e]
  exact hw

/-- What a core is handed: its share of the input, and its rows at `o`. -/
abbrev coreG (d : Dev nD) (c : Fin 2) (f : Vec F S33554432 .f32) (o : Vec F S32x1024 .i32) : sProp 𝕄 :=
  iprop((xLoc d ↦{cq c} f) ∗ (oLoc d ↦[coreSet c]{fullShare} o))

/-- A core's holding is what stays of its share and its tiles'. -/
theorem coreG_tiles (d : Dev nD) (c : Fin 2) (f : Vec F S33554432 .f32) (o : Vec F S32x1024 .i32) :
    (coreG d c f o : sProp 𝕄) ⊣⊢ iprop((xLoc d ↦{Transfers.shareDrop (cq c) 16} f)
      ∗ bigSep Finset.univ fun i : Fin 16 => tileG d (tq c i) (row c i) f o) := by
  unfold coreG tileG
  rw [bigSep_sep', show (oLoc d ↦[coreSet c]{fullShare} o : sProp 𝕄) = bigSep Finset.univ fun i : Fin 16 => oLoc d ↦[oRowSet (row c i)]{fullShare} o
    from (pointsTo_biUnion Finset.univ (ℓ := oLoc d) (fun i : Fin 16 => oRowSet (row c i)) (rows_disjoint c))]
  exact ⟨(sep_mono_left (Transfers.pointsTo_toks (cq c) 16).1).trans sep_assoc.1, sep_assoc.2.trans (sep_mono_left (Transfers.pointsTo_toks (cq c) 16).2)⟩

/-- The two arrays whole are what stays of the input and the cores' holdings. -/
theorem whole_cores (d : Dev nD) (f : Vec F S33554432 .f32) (o : Vec F S32x1024 .i32) :
    iprop((xLoc d ↦{fullShare} f) ∗ (oLoc d ↦{fullShare} o) : sProp 𝕄) ⊣⊢ iprop((xLoc d ↦{Transfers.shareDrop fullShare 2} f)
      ∗ bigSep Finset.univ fun c : Fin 2 => coreG d c f o) := by
  unfold coreG
  rw [bigSep_sep', show (oLoc d ↦{fullShare} o : sProp 𝕄) = bigSep Finset.univ fun c : Fin 2 => oLoc d ↦[coreSet c]{fullShare} o
    from by rw [← pointsTo_biUnion Finset.univ (ℓ := oLoc d) coreSet cores_disjoint, cores_cover]; try rfl]
  exact ⟨(sep_mono_left (Transfers.pointsTo_toks fullShare 2).1).trans sep_assoc.1, sep_assoc.2.trans (sep_mono_left (Transfers.pointsTo_toks fullShare 2).2)⟩

variable [FloatOps F]

/-- The call's payloads: a core takes its share of the input and its rows as the launch holds them, a tile its part of
    these; both bring them back, the rows holding the counts. -/
def P : (K (F := F)).Pay (nD := nD) (Val := Elt F) (Name := ℕ) (U := UU) where
  st := fun q d c => match q with | 0 => coreG d (Fin.cast nCore_zero c) (m (xLoc d)) (m (oLoc d))
  dn := fun q d c => match q with | 0 => coreG d (Fin.cast nCore_zero c) (m (xLoc d)) (outF (m (xLoc d)))
  go := fun q d c i => match q with
    | 0 => tileG d (tq (Fin.cast nCore_zero c) (Fin.cast nSub_zero i)) (row (Fin.cast nCore_zero c) (Fin.cast nSub_zero i)) (m (xLoc d)) (m (oLoc d))
  td := fun q d c i => match q with
    | 0 => tileG d (tq (Fin.cast nCore_zero c) (Fin.cast nSub_zero i)) (row (Fin.cast nCore_zero c) (Fin.cast nSub_zero i)) (m (xLoc d)) (outF (m (xLoc d)))
  x := fun _ _ => iprop(emp)

instance P_storable : (P (F := F) m).IsStorable where
  st q d c := match q with
    | 0 => (inferInstance : BI.Storable (upEmb : UEmb _ 𝕄) (coreG d (Fin.cast nCore_zero c) (m (xLoc d)) (m (oLoc d))))
  dn q d c := match q with
    | 0 => (inferInstance : BI.Storable (upEmb : UEmb _ 𝕄) (coreG d (Fin.cast nCore_zero c) (m (xLoc d)) (outF (m (xLoc d)))))
  go q d c i := match q with
    | 0 => (inferInstance : BI.Storable (upEmb : UEmb _ 𝕄)
      (tileG d (tq (Fin.cast nCore_zero c) (Fin.cast nSub_zero i)) (row (Fin.cast nCore_zero c) (Fin.cast nSub_zero i)) (m (xLoc d)) (m (oLoc d))))
  td q d c i := match q with
    | 0 => (inferInstance : BI.Storable (upEmb : UEmb _ 𝕄)
      (tileG d (tq (Fin.cast nCore_zero c) (Fin.cast nSub_zero i)) (row (Fin.cast nCore_zero c) (Fin.cast nSub_zero i)) (m (xLoc d)) (outF (m (xLoc d)))))

/-! ## The tiles' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          xM (Memref.isWhole_whole _) oM (Memref.isWhole_whole _) aM (Memref.isWhole_whole _)
          bM (Memref.isWhole_whole _) hM (Memref.isWhole_whole _) cc0_scratch3 cc0_scratch4 cc0_scoped0) ⟨⟩ c s := rfl

omit [FloatOps F] in
/-- A tile's record of what it waited on, as the launch asks for it. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (tq (Fin.cast nCore_zero c) (Fin.cast nSub_zero i)) (m (xLoc d)) (m (oLoc d)) O W hO).trans
    (wp_mono frame _ _ fun _ => waits_weaken)

theorem vecSplit : (K (F := F)).VecSplit' (P m) 0 := by
  intro d c
  have hb (o : Vec F S32x1024 .i32) : (bigSep Finset.univ fun i : Fin ((K (F := F)).nSub 0) =>
      (tileG d (tq (Fin.cast nCore_zero c) (Fin.cast nSub_zero i)) (row (Fin.cast nCore_zero c) (Fin.cast nSub_zero i)) (m (xLoc d)) o : sProp 𝕄))
      = bigSep Finset.univ fun i : Fin 16 => tileG d (tq (Fin.cast nCore_zero c) i) (row (Fin.cast nCore_zero c) i) (m (xLoc d)) o :=
    bigSep_congr fun _ _ => rfl
  show coreG d (Fin.cast nCore_zero c) (m (xLoc d)) (m (oLoc d)) ⊢ |={Set.univ}=> iprop(
      (bigSep Finset.univ fun i : Fin ((K (F := F)).nSub 0) =>
        tileG d (tq (Fin.cast nCore_zero c) (Fin.cast nSub_zero i)) (row (Fin.cast nCore_zero c) (Fin.cast nSub_zero i)) (m (xLoc d)) (m (oLoc d)))
      ∗ ((bigSep Finset.univ fun i : Fin ((K (F := F)).nSub 0) =>
          tileG d (tq (Fin.cast nCore_zero c) (Fin.cast nSub_zero i)) (row (Fin.cast nCore_zero c) (Fin.cast nSub_zero i)) (m (xLoc d)) (outF (m (xLoc d))))
          -∗ coreG d (Fin.cast nCore_zero c) (m (xLoc d)) (outF (m (xLoc d)))))
  rw [hb, hb]
  iintro H
  ihave H' := (coreG_tiles d (Fin.cast nCore_zero c) (m (xLoc d)) (m (oLoc d))).1 $$ H
  icases H' with ⟨Hx, Ht⟩
  imodintro
  isplitl [Ht]; · iexact Ht
  iintro Ht
  iapply (coreG_tiles d (Fin.cast nCore_zero c) (m (xLoc d)) (outF (m (xLoc d)))).2
  isplitl [Hx]; · iexact Hx
  iexact Ht

end Cert.Proof.K

end
-- ==== Proof.Region.lean ====
/-
  The finishing kernel on the TensorCore, between the call and the result.
-/
module

public import Idealize.ShloMosaic.Lib.Pipeline.ValueKit.Geometry
public import Idealize.ShloMosaic.Lib.Pipeline.RegionsLoop
public import proofs.«01_k».proof.Proof.Pay

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

open Idealize.ShloMosaic.TcCoe
open Idealize.ShloMosaic.Pipeline (Dat Cfg Window BodyObligation cellOf)

variable [FloatOps F]

/-- Memref `M`'s buffer on the TensorCore of `c`, held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-! ## The finishing kernel, run -/

/-- What the kernel leaves in its result's staging buffer, over the counts', with the run that says so. -/
noncomputable def finRun (c : Dev nD) (M0 : Memref sig .tc .vmem S32x1024 .i32) (h0 : M0.IsWhole) (M1 : Memref sig .tc .vmem S1x1 .f32) (h1 : M1.IsWhole)
    (f0 : Bf (F := F) c M0) :
    { W : Bf (F := F) c M1 // ∀ (f1 : Bf (F := F) c M1) (E : Set ℕ) (Q : PUnit → sProp 𝕄),
        iprop(pt c M0 f0 ∗ pt c M1 f1 ∗ (iprop(pt c M0 f0 ∗ pt c M1 W) -∗ Q ⟨⟩))
          ⊢ wp frame (wpE (defs₀ (F := F)) Variants.none c none) E (cc1__finish_kernel M0 h0 M1 h1) Q } := by
  refine ⟨?_, fun f1 E Q => ?run⟩
  case run =>
    iintro ⟨H0, H1, Hk⟩
    sl_exec!
    sl_step
    iapply Hk
    isplitl [H0]; · iexact H0
    iexact H1

theorem off_zero : (![0, 0] : Fin 2 → ℕ) = fun _ => 0 := by
  funext a; match a with | 0 => rfl | 1 => rfl

/-- What it leaves is the kernel's arithmetic on the counts. -/
theorem finRun_eq (c : Dev nD) (f0 : Vec F S32x1024 .i32) :
    (finRun (F := F) c (stage1_0 0) (hstage1_0 0) (stage1_1 0) (hstage1_1 0) f0).1 = k1_pay1 f0 := by
  unfold finRun
  show (stage1_1 0).view.writes (Elt F) (stage1_1 0).view.junk (finRun.sl.H1_1 c (stage1_0 0) f0) = _
  unfold finRun.sl.H1_1
  rw [View.writes_cons, View.writes_nil]
  refine (Memref.write_access_unit_zero_univ (Elt F) cc1_stg1_0 off_zero inb_S1x1_S1x1_0_0 _ _).trans ?_
  exact congrArg k1_pay1 (Memref.readAt_unit_zero (Elt F) cc1_stg0_0 off_zero inb_S32x1024_S32x1024_0_0 f0)

/-! ## The proof data -/

abbrev adm : (p : Fin 1) → (pcfgs (F := F) p).Adm := fun p => (cfgs p).toPCfg_adm

variable (Vx : (c : Dev nD) → (b : Ref sig .tc) → Buf (Elt F) ((c : Thread nD τ).loc b))

/-- The counts as the fetch stages them. -/
abbrev stg (c : Dev nD) : (cfg1.win 0).block.Idx → Elt F (cfg1.win 0).elt :=
  ((cfg1.win 0).blk t1_0).view.read (Elt F) (Vx c main_v0)

abbrev KR (c : Dev nD) := finRun (F := F) c (stage1_0 0) (hstage1_0 0) (stage1_1 0) (hstage1_1 0) (stg Vx c)

abbrev Φc (c : Dev nD) : sProp 𝕄 := Pipeline.scopedRest (Ix := HIx 1) (Name := ℕ) (U := UU) (Lvl := ℕ) (Val := Elt F) spec1 c

/-- The region's proof data from the buffers `Vx`: the arrays there; after the body the counts' staging buffer as
    fetched and the result's at what the run leaves; nothing owed; full shares. -/
def dats : (p : Fin 1) → (c : Dev nD) → Dat τ (Elt F) (HIx 1) ℕ UU ℕ (Pipeline.pin (pcfgs (F := F)) adm p) c
  | ⟨0, _⟩ => fun c => {
    A := fun w => Vx c (Pipeline.arrRef spec1 w)
    after := fun w _ => match w with
      | ⟨0, _⟩ => stg Vx c
      | ⟨1, _⟩ => (KR Vx c).1
    Φ := fun _ => Φc c
    q := fun _ => fullShare
    owed := fun _ => 0 }

abbrev dat (c : Dev nD) : Dat τ (Elt F) (HIx 1) ℕ UU ℕ cfg1 c := dats Vx 0 c

theorem before_in (c : Dev nD) (b : (cfg1.win 0).block.Idx → Elt F (cfg1.win 0).elt) : (dat Vx c).before 0 t1_0 b = stg Vx c := by
  unfold Dat.before; rw [if_pos (by decide)]; rfl

theorem body_obligation (c : Dev nD) : BodyObligation (dat Vx c) (defs₀ (F := F)) 𝒱₀ (none : HIx 1) Set.univ := fun t => by
  obtain rfl := fin_N1 t
  rw [bigSep_W1, bigSep_W1]
  simp only [owns_whole_eq]
  rw [show (dat Vx c).Φ t1_0.castSucc = Φc c from rfl, show (dat Vx c).Φ t1_0.succ = Φc c from rfl,
    show (dat Vx c).owesAt none t1_0.succ = (dat Vx c).owesAt none t1_0.castSucc from rfl]
  iintro ⟨HΦ, Howes, ⟨%d0, %f0, %hf0, H0⟩, ⟨%d1, %f1, -, H1⟩⟩
  rw [before_in] at hf0
  subst hf0
  iapply ((KR Vx c).2 f1 Set.univ _)
  isplitl [H0]; · iexact H0
  isplitl [H1]; · iexact H1
  iintro ⟨H0, H1⟩
  isplitl [HΦ]; · iexact HΦ
  isplitl [Howes]; · iexact Howes
  isplitl [H0]; · iexists _; isplitr; swap; (· iexact H0); ipureintro; dsimp only [dat, dats]
  iexists _; isplitr; swap; (· iexact H1); ipureintro; dsimp only [dat, dats]

/-- The result's array after the region: the one write-back of what the run leaves. -/
theorem arr_out (c : Dev nD) : (dat Vx c).arrAt 1 cfg1.N = k1_pay1 (Vx c main_v0) := by
  refine (dat Vx c).arrAt_eq_of_after_last 1 t1_0 (by decide +kernel) _ fun j => ?_
  have e : stg Vx c = Vx c main_v0 := by
    refine Memref.read_access_unit_zero (Elt F) main_v0 ?_ _ _
    funext a
    exact Nat.zero_mul _
  have e1 : (KR Vx c).1 = k1_pay1 (Vx c main_v0) := by rw [finRun_eq, e]
  show (KR Vx c).1 _ = _
  rw [e1]
  rfl

/-! ## The region over the TensorCore's buffers -/

variable (Vp : (c : Dev nD) → (b : Ref sig .tc) → Buf (Elt F) ((c : Thread nD τ).loc b))

set_option backward.isDefEq.respectTransparency.types false in
/-- The region, from the unscoped buffers at `Vx` to them at `Vp`: the result's array at the region's write-back, every
    other as it was. -/
def reg (hout : ∀ c, Vp c main_v1 = k1_pay1 (Vx c main_v0)) (hne : ∀ c (b : Ref sig .tc), b ≠ main_v1 → Vp c b = Vx c b) :
    Pipeline.RegionSeg (pcfgs (F := F)) adm (dats Vx) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation Vx c).loose
  hwaits := Pipeline.hwaits_of_owed_zero _ _ _ _ _ _ 0 fun _ _ => rfl
  pre c := iprop(unscopedBufs c (Vx c) ∗ ∃ W, owes (c : Thread nD τ) (0 : CellTallies nD τ sig (HIx 1)) W)
  post c := iprop(unscopedBufs c (Vp c) ∗ ∃ W, owes (c : Thread nD τ) (0 : CellTallies nD τ sig (HIx 1)) W)
  X _ := BI.emp
  Y _ := BI.emp
  Z c := Pipeline.unscopedRest (Ix := HIx 1) (Name := ℕ) (U := UU) (Lvl := ℕ) spec1 c (Vx c)
  hentry c := by
    rw [Pipeline.ownSems0_none]
    have hsplit := Pipeline.arrays_of_unscopedBufs (p := 0) (pcfgs (F := F)) adm (dats Vx) launch1.win launch1.arr_whole c
      ((dats Vx 0 c).share_full fun _ => rfl) (Vx c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats Vx 0 c).Φ 0 = Φc c from rfl]
    iintro ⟨-, -, Hr⟩; iexact Hr
  hout c := by
    rw [Pipeline.ownSems0_none, show (dats Vx 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (dats Vx) ((dats Vx 0 c).share_full fun _ => rfl) (Vx c) (Vp c) ((dats Vx 0 c).arrAt · cfg1.N)
      (fun w => by
        fin_cases w
        · exact ((dats Vx 0 c).arrAt_in 0 rfl _).trans (hne c main_v0 (by decide)).symm
        · exact (arr_out Vx c).trans (hout c).symm)
      (fun b hb => hne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Proof.K

end
-- ==== Proof.Launch.lean ====
/-
  @main on the TensorCore, and the whole program's run.
-/
module

public import proofs.«01_k».proof.Proof.Region

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

open Idealize.ShloMosaic.TcCoe
open Idealize.ShloMosaic.StableHlo (held wp_hlo_within)
open Idealize.ShloMosaic.Rounds (initOf)

variable [FloatOps F] (m : (ℓ : Loc nD τ sig) → Buf (Elt F) ℓ) (ρ : Dev nD → PrngReg)

/-! ## The launch's ghost state -/

def uP : UP := initOf (Pipeline.cells (cfgs) cellOf_inj) (Pipeline.launchToks (cfgs) cellOf_inj)

def u₀ : UU := (initOf (K (F := F)).hsCells (K (F := F)).hsToks, (uP, 1))

/-- The pipeline's ghost state on a core. -/
def ghostP (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem own_uP : (BI.own (embR (uP, (1 : Counters))) : sProp 𝕄) ⊢ BI.own (EP uP) := BI.Entails.refl _

theorem fundP : (BI.own (EP (uP)) : sProp 𝕄) ⊢ iprop(|==> bigSep Finset.univ fun d : Dev nD => ghostP (F := F) d) := by
  refine (Pipeline.fund_ghost (nD := nD) (τ := τ) (Pipeline.pin (pcfgs (F := F)) adm) EP cellOf_inj).trans (bupd_mono ?_)
  rw [← bigSep_sep']
  refine bigSep_mono fun d _ => ?_
  unfold ghostP
  rw [bigSep_univ_of_subsingleton (0 : Fin 1), bigSep_univ_of_subsingleton (0 : Fin 1)]
  exact BI.Entails.refl _

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => ghostP (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) ((uP, 1) : UP × Counters)) $$ Hu
  icases H with ⟨HH, HP⟩
  ihave HP := own_uP $$ HP
  imod fundP $$ HP with HP
  imodintro
  isplitl [HH]; · iexact HH
  isplitl [HP]; · iexact HP
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The TensorCore's buffers -/

abbrev x' : DevRef τ sig := Proc.devRef .tc (main_arg0 : Ref sig .tc)
abbrev o' : DevRef τ sig := Proc.devRef .tc (main_v0 : Ref sig .tc)
abbrev y' : DevRef τ sig := Proc.devRef .tc (main_v1 : Ref sig .tc)
abbrev z' : DevRef τ sig := Proc.devRef .tc (main_v2 : Ref sig .tc)
abbrev S4 : Finset (DevRef τ sig) := {x', o', y', z'}

abbrev opR : HloOp τ sig (Elt F) := StableHlo.reshape main_v1 main_v2 (rfl : (.f32 : EltTy) = .f32) shapeCasts_S1x1_S_

omit [FloatOps F] in
theorem held_S4 (d : Dev nD) (W : Valuation τ sig (Elt F)) :
    (held (T d) S4 W : sProp 𝕄) = iprop((xLoc d ↦{fullShare} W x') ∗ (oLoc d ↦{fullShare} W o') ∗ (yLoc d ↦{fullShare} W y') ∗ zLoc d ↦{fullShare} W z') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (oLoc d ↦{fullShare} W main_v0) ∗ (yLoc d ↦{fullShare} W main_v1) ∗ zLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The counts the call leaves, and the finishing kernel's result. -/
abbrev cntV (d : Dev nD) : Vec F S32x1024 .i32 := outF (m (xLoc d))
abbrev finV (d : Dev nD) : Vec F S1x1 .f32 := k1_pay1 (cntV m d)

/-- The buffers at the launch, after the call, and after the finishing kernel. -/
def W0 (d : Dev nD) : Valuation τ sig (Elt F) := fun b => m (d, b)
def W1 (d : Dev nD) : Valuation τ sig (Elt F) := Function.update (W0 m d) o' (cntV m d)
def W2 (d : Dev nD) : Valuation τ sig (Elt F) := Function.update (W1 m d) y' (finV m d)

theorem W1_x (d : Dev nD) : W1 m d x' = m (xLoc d) := Function.update_of_ne (show x' ≠ o' by decide) _ _
theorem W1_o (d : Dev nD) : W1 m d o' = cntV m d := Function.update_self _ _ _
theorem W1_y (d : Dev nD) : W1 m d y' = m (yLoc d) := Function.update_of_ne (show y' ≠ o' by decide) _ _
theorem W1_z (d : Dev nD) : W1 m d z' = m (zLoc d) := Function.update_of_ne (show z' ≠ o' by decide) _ _
theorem unscopedBufs_V1 (d : Dev nD) : (unscopedBufs d (fun b : Ref sig .tc => W1 m d (Proc.devRef .tc b)) : sProp 𝕄)
    = iprop((xLoc d ↦{fullShare} m (xLoc d)) ∗ (oLoc d ↦{fullShare} cntV m d) ∗ (yLoc d ↦{fullShare} m (yLoc d)) ∗ zLoc d ↦{fullShare} m (zLoc d)) := by
  rw [← W1_x m d, ← W1_o m d, ← W1_y m d, ← W1_z m d]
  exact unscopedBufs_eq d _

theorem W2_y (d : Dev nD) : W2 m d y' = finV m d := Function.update_self _ _ _
theorem W2_of_ne (d : Dev nD) {b : DevRef τ sig} (h : b ≠ y') : W2 m d b = W1 m d b := Function.update_of_ne h _ _

abbrev V1 (d : Dev nD) (b : Ref sig .tc) : Buf (Elt F) ((d : Thread nD τ).loc b) := W1 m d (Proc.devRef .tc b)
abbrev V2 (d : Dev nD) (b : Ref sig .tc) : Buf (Elt F) ((d : Thread nD τ).loc b) := W2 m d (Proc.devRef .tc b)

/-- @main's result. -/
def resV (d : Dev nD) : Vec F S_ .f32 := shapeCast S_ (finV m d) shapeCasts_S1x1_S_

theorem res_z (d : Dev nD) : (opR (F := F)).result (W2 m d) z' = resV m d := by
  rw [HloOp.result_of_mem _ _ (show z' ∈ ({z'} : Finset (DevRef τ sig)) by decide)]
  show shapeCast S_ (W2 m d y') shapeCasts_S1x1_S_ = _
  rw [W2_y]; rfl

theorem res_x (d : Dev nD) : (opR (F := F)).result (W2 m d) x' = m (xLoc d) := by
  rw [HloOp.result_of_not_mem _ _ (show x' ∉ ({z'} : Finset (DevRef τ sig)) by decide), W2_of_ne m d (by decide), W1_x]

theorem hR : (opR (F := F)).bufs ⊆ S4 := show ({y', z'} : Finset (DevRef τ sig)) ⊆ S4 by decide

/-! ## @main on the TensorCore -/

theorem st0_eq (d : Dev nD) : (bigSep Finset.univ fun c : Fin ((K (F := F)).nCore 0) => (P m).st 0 d c)
    = bigSep Finset.univ fun c : Fin 2 => coreG d c (m (xLoc d)) (m (oLoc d)) := bigSep_congr fun _ _ => rfl
theorem dn0_eq (d : Dev nD) : (bigSep Finset.univ fun c : Fin ((K (F := F)).nCore 0) => (P m).dn 0 d c)
    = bigSep Finset.univ fun c : Fin 2 => coreG d c (m (xLoc d)) (cntV m d) := bigSep_congr fun _ _ => rfl

/-- Whatever the TensorCore waited on lies below the calls to come, of which there are none. -/
theorem wBelow (d : Dev nD) (W : Waits sig (HIx 1)) : (K (F := F)).WBelow (T d) W 8 := by
  rintro ⟨s, ι⟩ -
  match ι with
  | none => exact Nat.zero_le _
  | some 0 => exact Nat.le_succ _

/-- What @main leaves the claim: the input as it was, and the result. -/
abbrev FIN (d : Dev nD) : sProp 𝕄 := iprop((xLoc d ↦{fullShare} m (xLoc d)) ∗ zLoc d ↦{fullShare} resV m d)

theorem region_eq : (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) fun _ => Prog.ret PUnit.unit) := rfl

def regM := reg (F := F) (V1 m) (V2 m) (fun d => (W2_y m d).trans (congrArg k1_pay1 (W1_o m d)).symm)
  (fun d b hb => W2_of_ne m d fun e => hb (Proc.devRef_injective _ e))

theorem regM_pre (d : Dev nD) : (regM m).pre d = iprop(unscopedBufs d (V1 m d) ∗ ∃ W, owes (T d) (0 : CellTallies nD τ sig (HIx 1)) W) := rfl
theorem regM_post (d : Dev nD) : (regM m).post d = iprop(unscopedBufs d (V2 m d) ∗ ∃ W, owes (T d) (0 : CellTallies nD τ sig (HIx 1)) W) := rfl

/-- The finishing kernel's region, from the buffers the call left. -/
theorem wp_region [∀ e, Nonempty (Elt F e)] (d : Dev nD) :
    iprop(boundary (T d) ∗ (unscopedBufs d (V1 m d) ∗ ∃ W, owes (T d) (0 : CellTallies nD τ sig (HIx 1)) W)
        ∗ levAts (K (F := F)).L (K (F := F)).lev ∗ ghostP (F := F) d)
      ⊢ wp frame (wpE ((K (F := F)).defs (D (F := F))) 𝒱 (T d) none) Set.univ
          (Prog.lift (.customCall (SparseCore.inner (Pipeline.entry 0)) ()) : Prog (TpuEff nD τ sig (Elt F) (SparseCore.Sig (ΛP (F := F)) 1) .tc) PUnit)
          fun _ => iprop(boundary (T d) ∗ unscopedBufs d (V2 m d) ∗ ∃ W, owes (T d) (0 : CellTallies nD τ sig (HIx 1)) W) := by
  rw [region_eq]
  refine BI.Entails.trans ?_ ((K (F := F)).wp_liftProg (D (F := F)) 𝒱 (T d) Set.univ none _ _)
  have h := Pipeline.RegionSeg.wp (pcfgs (F := F)) adm (dats (V1 m)) (none : HIx 1) cellOf_inj EP defs₀ 𝒱₀ (K (F := F)).L (K (F := F)).lev
    (regM m)
    d none (fun _ h => nomatch h) (fun _ => Prog.ret PUnit.unit) (fun _ => iprop(boundary (T d) ∗ unscopedBufs d (V2 m d) ∗ ∃ W, owes (T d) (0 : CellTallies nD τ sig (HIx 1)) W))
  rw [regM_pre, regM_post] at h
  refine BI.Entails.trans ?_ h
  unfold ghostP
  show (_ : sProp 𝕄) ⊢ _
  iintro ⟨Hb, Hpre, Hlev, Hg, Ht⟩
  isplitr
  · iintro ⟨Hb, Hpost⟩
    rw [wp_ret]; imodintro
    isplitl [Hb]; · iexact Hb
    iexact Hpost
  isplitl [Hb]; · iexact Hb
  isplitl [Hpre]; · iexact Hpre
  isplitl [Hlev]; · iexact Hlev
  isplitl [Hg]; · iexact Hg
  iexact Ht

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ ghostP (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ho, Hy, Hz⟩, Hts, -⟩, Hg⟩
  ihave #Hlv := ((K (F := F)).ctx_levAts κ) $$ Hctx
  ihave Hw := (whole_cores d (m (xLoc d)) (m (oLoc d))).1 $$ [Hx Ho]
  · isplitl [Hx] <;> iassumption
  icases Hw with ⟨Hxr, Hc⟩
  iapply ((K (F := F)).wp_run (D (F := F)) 𝒱 (EH := EH) (P := P m) κ d 0) $$ [Hst Hxr Hc Hy Hz Hb Hts Hg]
  isplitr; · iexact Hctx
  isplitl [Hst]; · iexact Hst
  isplitl [Hc]
  · rw [st0_eq]; iexact Hc
  iintro ⟨Hst, Hdn⟩
  ihave Hdn' := (Entails.of_eq (dn0_eq m d)) $$ Hdn
  ihave Hw := (whole_cores d (m (xLoc d)) (cntV m d)).2 $$ [Hxr Hdn']
  · isplitl [Hxr] <;> iassumption
  icases Hw with ⟨Hx, Ho⟩
  unfold SparseCore.Cfg.tcSt
  icases Hst with ⟨⟨%W, -, HO⟩, Hst⟩
  ihave HO' := (Entails.of_eq (show (owes (T d) ((K (F := F)).Otc d ((0 : Fin 1).val + 1)) W : sProp 𝕄) = owes (T d) 0 W by rw [(K (F := F)).Otc_end d (n := (0 : Fin 1).val + 1) (by decide)])) $$ HO
  iapply (wp_wand_r frame)
  isplitl [Hb Hx Ho Hy Hz HO' Hg]
  · iapply (wp_region m d)
    isplitl [Hb]; · iexact Hb
    isplitl [Hx Ho Hy Hz HO']
    · isplitl [Hx Ho Hy Hz]
      · rw [unscopedBufs_V1]
        isplitl [Hx]; · iexact Hx
        isplitl [Ho]; · iexact Ho
        isplitl [Hy]; · iexact Hy
        iexact Hz
      iexists W; iexact HO'
    isplitr; · iexact Hlv
    iexact Hg
  iintro %u ⟨Hb, Hbufs, %W', HO⟩
  ihave Hheld := (Entails.of_eq ((unscopedBufs_eq d (V2 m d)).trans (held_S4 d (W2 m d)).symm)) $$ Hbufs
  iapply (wp_hlo_within 𝒱 (SparseCore.T d) none Set.univ (op := opR) (S := S4) hR (V := W2 m d)) $$ [Hb Hheld]
  · isplitl [Hb]; · iexact Hb
    iexact Hheld
  iintro ⟨Hb, Hheld⟩
  ihave Hh := (Entails.of_eq (held_S4 (F := F) d _)) $$ Hheld
  rw [res_x, res_z]
  icases Hh with ⟨Hx, -, -, Hz⟩
  rw [wp_ret]; imodintro; imodintro
  isplitl [Hst HO]
  · isplitl [HO]
    · iexists W'
      isplitr; · ipureintro; exact wBelow d W'
      iapply (Entails.of_eq (show (owes (T d) ((K (F := F)).Otc d ((0 : Fin 1).val + 1)) W' : sProp 𝕄) = owes (T d) 0 W' by rw [(K (F := F)).Otc_end d (n := (0 : Fin 1).val + 1) (by decide)]).symm); iexact HO
    iexact Hst
  isplitr [Hb Hts]
  · isplitl [Hx] <;> iassumption
  isplitl [Hb] <;> iassumption

/-! ## The program's run -/

def fq (d : Dev nD) (s' : Phys nD τ sig (Elt F)) : Prop := s'.mem.mem (xLoc d) = m (xLoc d) ∧ s'.mem.mem (zLoc d) = resV m d

theorem hfin (d : Dev nD) (s' : Phys nD τ sig (Elt F)) : iprop(FIN m d ∗ SI s') ⊢ (⌜fq m d s'⌝ : sProp 𝕄) := by
  iintro ⟨⟨Hx, Hz⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := zLoc d) (I := Finset.univ) (q := fullShare) (f := resV m d)) $$ [HSI Hz]
  · isplitl [HSI] <;> iassumption
  icases H with %h2
  ipureintro; exact ⟨funext fun i => h1 i (Finset.mem_univ i), funext fun i => h2 i (Finset.mem_univ i)⟩

/-- What the run leaves: on every device the input as it was and the result, every counter at zero. -/
def QC : PUnit × MemSt nD τ sig (Elt F) → Prop := fun r =>
  (∀ c : Dev nD, r.2.mem (xLoc c) = m (xLoc c) ∧ r.2.mem (zLoc c) = resV m c) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main ghostP (FIN m) (u₀ (F := F)) (sep_elim_left.trans (hu₀ m)) (hmain m ρ) (fq m) (hfin m) (QC m) (fun _ h hz => ⟨h, hz⟩)

end Cert.Proof.K

end
-- ==== Proof.Frames.lean ====
/-
  The frames: every weakly fair run of each of the three programs ends, its argument unchanged and its counters at zero.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Launch
public import Idealize.ShloMosaic.Adequacy
public import Idealize.ShloMosaic.Init

@[expose] public section

noncomputable section

namespace Cert.Proof

open Idealize.ShloMosaic Idealize.SL.Sem Idealize.ShloMosaic.TcCoe

/-! ## The kernel as written is the kernel after idealization -/

section
variable {F : FTy → Type} [FloatOps F]

/-- Each program label runs the same code in both. -/
theorem defs₀_same : @Cert.Kernel.defs₀ F _ Cert.Kernel.Gen.facts = @Cert.KernelIdeal.defs₀ F _ Cert.KernelIdeal.Gen.facts := by
  funext p l a
  match p, l, a with
  | .scVector c s, 0, a => rfl
  | .tc, 1, a => rfl
  | .tc, 0, a => rfl
  | .scVector c s, 1, a => rfl
  | .scScalar c, 0, a => rfl
  | .scScalar c, 1, a => rfl

/-- So do the definitions with the pipeline's labels. -/
theorem defs_same : @Cert.Kernel.defs F _ Cert.Kernel.Gen.facts = @Cert.KernelIdeal.defs F _ Cert.KernelIdeal.Gen.facts := by
  exact congrArg (fun D => (Cert.KernelIdeal.sc (F := F)).defs (Pipeline.defs Cert.KernelIdeal.pcfgs D)) defs₀_same

end

/-! ## The frames -/

theorem frame_KernelIdeal : Cert.quiescent_KernelIdeal := fun m g _ =>
  (θ_run Cert.KernelIdeal.defs _ _).mono (fun _ h => ⟨fun c => (h.1 c).1, h.2⟩) (K.run_main (F := Ideal) m g)

theorem frame_Kernel : Cert.quiescent_Kernel := by
  intro m g _
  have h := K.run_main (F := Bits) m g
  rw [← defs_same] at h
  exact (θ_run Cert.Kernel.defs _ _).mono (fun _ h => ⟨fun c => (h.1 c).1, h.2⟩) h

/-- The reference runs on the host alone and declares no counter. -/
theorem frame_ReferenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.Proof

end
-- ==== Proof.Counting.lean ====
/-
  Counting, in the natural numbers alone: how the words of the 32 tiles' eight sub-histograms add up to the bins' counts.
-/
module

public import proofs.«01_k».proof.Proof.Hist

@[expose] public section

noncomputable section

namespace Cert.Proof.K

open Finset

/-- How many of the first `n` numbers have bin `k`. -/
def ctN (b : ℕ → ℕ) (n k : ℕ) : ℕ := ∑ i ∈ range n, if b i = k then 1 else 0

theorem cnt_eq_sum (key : ℕ → ℕ) (n p : ℕ) : cnt key n p = ∑ i ∈ range n, if key i = p then 1 else 0 := by
  unfold cnt; rw [card_filter]

/-- A sum over blocks of `M` is the sum over all. -/
theorem sum_blocks (h : ℕ → ℕ) (M W : ℕ) : ∑ w ∈ range W, ∑ j ∈ range M, h (M * w + j) = ∑ n ∈ range (M * W), h n := by
  induction W with
  | zero => simp
  | succ W ih => rw [sum_range_succ, ih, Nat.mul_succ, sum_range_add]

/-- The eight sub-histograms' words `g` count the elements whose bin and lane make `g`. -/
theorem sum_sub (b : ℕ → ℕ) (hb : ∀ i, b i < 64) (M g : ℕ) (hg : g < 1024) :
    ∑ u ∈ range 8, cnt (fun j => 16 * b j + j % 16 + (j / 16 % 8) * 1024) M (u * 1024 + g)
      = ∑ j ∈ range M, if 16 * b j + j % 16 = g then 1 else 0 := by
  simp only [cnt_eq_sum]
  rw [sum_comm]
  refine sum_congr rfl fun j _ => ?_
  have hbj := hb j
  have e : ∀ u, (if 16 * b j + j % 16 + (j / 16 % 8) * 1024 = u * 1024 + g then 1 else 0)
      = if j / 16 % 8 = u then (if 16 * b j + j % 16 = g then 1 else 0) else 0 := fun u => by
    split_ifs <;> omega
  rw [sum_congr rfl fun u _ => e u, sum_ite_eq, if_pos (mem_range.2 (by omega))]

/-- Word `g` summed over the tiles: the elements of the whole input whose bin and lane make `g`. -/
theorem sum_tiles (b : ℕ → ℕ) (hb : ∀ i, b i < 64) (M W g : ℕ) (hM : M % 16 = 0) (hg : g < 1024) :
    ∑ w ∈ range W, ∑ u ∈ range 8, cnt (fun j => 16 * b (M * w + j) + j % 16 + (j / 16 % 8) * 1024) M (u * 1024 + g)
      = ∑ n ∈ range (M * W), if 16 * b n + n % 16 = g then 1 else 0 := by
  rw [← sum_blocks]
  refine sum_congr rfl fun w _ => ?_
  rw [sum_sub (fun j => b (M * w + j)) (fun _ => hb _) M g hg]
  refine sum_congr rfl fun j _ => ?_
  have : (M * w + j) % 16 = j % 16 := by rw [Nat.add_mod, Nat.mul_mod, hM]; simp
  rw [this]

/-- The sixteen lanes of a bin together count the bin. -/
theorem sum_lanes (b : ℕ → ℕ) (hb : ∀ i, b i < 64) (N k : ℕ) :
    ∑ g ∈ range 1024, (∑ n ∈ range N, if 16 * b n + n % 16 = g then 1 else 0) * (if g / 16 = k then 1 else 0) = ctN b N k := by
  unfold ctN
  simp only [sum_mul]
  rw [sum_comm]
  refine sum_congr rfl fun n _ => ?_
  have hbn := hb n
  have e : ∀ g, (if 16 * b n + n % 16 = g then 1 else 0) * (if g / 16 = k then 1 else 0)
      = if 16 * b n + n % 16 = g then (if b n = k then 1 else 0) else 0 := fun g => by
    split_ifs <;> omega
  rw [sum_congr rfl fun g _ => e g, sum_ite_eq, if_pos (mem_range.2 (by omega))]

/-- All the bins together count everything. -/
theorem sum_bins (b : ℕ → ℕ) (K : ℕ) (hb : ∀ i, b i < K) (N : ℕ) : ∑ k ∈ range K, ctN b N k = N := by
  unfold ctN
  rw [sum_comm, sum_congr rfl fun n _ => by rw [sum_ite_eq, if_pos (mem_range.2 (hb n))]]
  simp

theorem sum_ind_le (N : ℕ) (p : ℕ → Prop) [DecidablePred p] : (∑ i ∈ range N, if p i then 1 else 0) ≤ N := by
  refine (sum_le_sum (g := fun _ => 1) fun i _ => ?_).trans (by simp)
  split_ifs <;> omega

theorem ctN_le (b : ℕ → ℕ) (N k : ℕ) : ctN b N k ≤ N :=
  sum_ind_le N _

/-- Bins numbered from `o` on: the count of `o + k` is the count of `k`, -/
theorem ctN_shift (b : ℕ → ℕ) (o N k : ℕ) : ctN (fun i => b i + o) N (o + k) = ctN b N k := by
  unfold ctN
  refine sum_congr rfl fun i _ => ?_
  show (if b i + o = o + k then 1 else 0) = _
  split_ifs <;> omega

/-- and the numbers that no element has count nothing. -/
theorem ctN_zero (b : ℕ → ℕ) (N k : ℕ) (h : ∀ i, b i ≠ k) : ctN b N k = 0 := by
  unfold ctN
  exact sum_eq_zero fun i _ => if_neg (h i)

end Cert.Proof.K

end
-- ==== Proof.Finish.lean ====
/-
  What the TensorCore makes of the partial histograms, over the extended reals: the entropy of the 64 bins' counts.
-/
module

public import proofs.«01_k».proof.Proof.Setup
public import proofs.«01_k».proof.Proof.Counting
public import proofs.«01_k».proof.Proof.Gen.KernelIdeal.Skeleton
public import Idealize.ShloMosaic.PureOps.Ideal.Laws
public import Idealize.ShloMosaic.Lib.ValueIdx
public import Idealize.ShloMosaic.Lib.ValueLayout
public import Idealize.ShloMosaic.Lib.WordSum
public import Idealize.ShloMosaic.Lib.IdealHost
public import Idealize.ShloMosaic.Lib.MatmulPlain
public import Idealize.ShloMosaic.Lib.Pointwise.Reduce

@[expose] public section

noncomputable section

namespace Cert.Proof.K

open Cert.KernelIdeal Cert.KernelIdeal.Gen Idealize.ShloMosaic.ValueIdx Finset
open Idealize.ShloMosaic hiding ix0 ix1 ix2 ix3 sum_idx1 sum_idx2 sum_idx3
open scoped BigOperators

/-! ## Counts as extended reals -/

/-- A count as an extended real. -/
def E (n : ℕ) : EReal := ((n : ℝ) : EReal)

theorem E_zero : E 0 = 0 := by simp [E]
theorem E_one : E 1 = 1 := by simp [E]
theorem E_add (a b : ℕ) : E a + E b = E (a + b) := by simp [E, EReal.coe_add]
theorem E_mul (a b : ℕ) : E a * E b = E (a * b) := by simp [E, EReal.coe_mul]

theorem E_sum {ι : Type*} (S : Finset ι) (f : ι → ℕ) : ∑ i ∈ S, E (f i) = E (∑ i ∈ S, f i) := by
  induction S using Finset.cons_induction with
  | empty => simp [E_zero]
  | cons a S ha ih => rw [sum_cons, sum_cons, ih, E_add]

theorem E_ne_zero {n : ℕ} (h : n ≠ 0) : E n ≠ 0 := by
  unfold E; exact_mod_cast h

/-- A word that holds a count below 2^31, converted. -/
theorem sitofp_word (w : BitVec 32) (n : ℕ) (h : w.toNat = n) (hn : n < 2 ^ 31) : FloatOps.sitofp (F := Ideal) .f32 w = E n := by
  show ((w.toInt : ℝ) : EReal) = ((n : ℝ) : EReal)
  have : w.toInt = (n : ℤ) := by rw [BitVec.toInt_eq_toNat_cond, h, if_pos (by omega)]
  rw [this]; norm_cast

/-! ## The entropy of counts -/

/-- One bin's term: its share `p` of the total times the binary logarithm of `p`, a bin of no share counting nothing. -/
def tm (x T : EReal) : EReal :=
  FloatOps.mulf (F := Ideal) (φ := .f32) (FloatOps.divf (F := Ideal) (φ := .f32) x T)
    (FloatOps.mulf (F := Ideal) (φ := .f32) (FloatOps.log (F := Ideal) (φ := .f32)
      (Scalar.select (FloatOps.cmpf (F := Ideal) (φ := .f32) .ogt (FloatOps.divf (F := Ideal) (φ := .f32) x T) (Scalar.ofBits .f32 0x00000000#32))
        (FloatOps.divf (F := Ideal) (φ := .f32) x T) (Scalar.ofBits .f32 0x3F800000#32)))
      (Scalar.ofBits .f32 0x3FB8AA3B#32))

theorem tm_zero {T : EReal} (h : T ≠ 0) : tm 0 T = 0 := by
  have e : FloatOps.divf (F := Ideal) (φ := .f32) 0 T = (0 : EReal) := Ideal.zero_div h
  unfold tm
  rw [e]
  exact zero_mul _

/-! ## The columns of the partial histograms -/

/-- The bin of the input's element `n`. -/
def bN (f : Vec Ideal S33554432 .f32) (n : ℕ) : ℕ := (binW (xAt f n)).toNat

theorem bN_lt (f : Vec Ideal S33554432 .f32) (n : ℕ) : bN f n < 64 := binW_lt _

theorem sum8_hst (key : ℕ → ℕ) (n g : ℕ) (hg : g < 1024) :
    sum8 (F := Ideal) (hstV (F := Ideal) key n) g = BitVec.ofNat 32 (∑ u ∈ range 8, cnt key n (u * 1024 + g)) := by
  have e : ∀ q, q < 8192 → hstV (F := Ideal) key n (wordH q) = BitVec.ofNat 32 (cnt key n q) := fun q hq => by
    show BitVec.ofNat 32 (cnt key n (q % 8192)) = _
    rw [Nat.mod_eq_of_lt hq]
  simp only [sum8]
  rw [e _ (by omega), e _ (by omega), e _ (by omega), e _ (by omega), e _ (by omega), e _ (by omega), e _ (by omega), e _ (by omega)]
  simp only [sum_range_succ, sum_range_zero, BitVec.ofNat_add, zero_add, Nat.zero_mul, Nat.one_mul, Nat.reduceMul]

/-- One row of the partial histograms, as numbers. -/
theorem outF_toNat (f : Vec Ideal S33554432 .f32) (w : Fin 32) (g : Fin 1024) :
    (outF f (ix2 w g)).toNat
      = ∑ u ∈ range 8, cnt (fun j => 16 * bN f (1048576 * w.val + j) + j % 16 + (j / 16 % 8) * 1024) 1048576 (u * 1024 + g.val) := by
  have h : outF f (ix2 w g) = BitVec.ofNat 32
      (∑ u ∈ range 8, cnt (fun j => 16 * bN f (1048576 * w.val + j) + j % 16 + (j / 16 % 8) * 1024) 1048576 (u * 1024 + g.val)) := by
    have ek : keyN (tileX f w.val) = fun j => 16 * bN f (1048576 * w.val + j) + j % 16 + (j / 16 % 8) * 1024 := rfl
    show sum8 (hstV (keyN (tileX f w.val)) 1048576) g.val = _
    rw [sum8_hst _ _ _ g.isLt, ek]
  have hle := (sum_sub (fun j => bN f (1048576 * w.val + j)) (fun _ => bN_lt _ _) 1048576 g.val g.isLt).le.trans (sum_ind_le _ _)
  rw [h, BitVec.toNat_ofNat, Nat.mod_eq_of_lt (lt_of_le_of_lt hle (by norm_num))]

/-- How many elements of the input have bin and lane `g`. -/
def col (f : Vec Ideal S33554432 .f32) (g : ℕ) : ℕ := ∑ n ∈ range 33554432, if 16 * bN f n + n % 16 = g then 1 else 0

theorem col_le (f : Vec Ideal S33554432 .f32) (g : ℕ) : col f g ≤ 33554432 := sum_ind_le _ _

theorem sum_rows (f : Vec Ideal S33554432 .f32) (g : Fin 1024) : ∑ w : Fin 32, (outF f (ix2 w g)).toNat = col f g.val := by
  simp only [outF_toNat]
  rw [Fin.sum_univ_eq_sum_range (fun w => ∑ u ∈ range 8,
    cnt (fun j => 16 * bN f (1048576 * w + j) + j % 16 + (j / 16 % 8) * 1024) 1048576 (u * 1024 + g.val)) 32]
  exact sum_tiles (bN f) (bN_lt f) 1048576 32 g.val (by norm_num) g.isLt

/-- A sum over the rows of a column. -/
theorem colsum_toNat (v : IVec S32x1024 32) (g : Fin 1024) (n : ℕ) (h : ∑ w : Fin 32, (v (ix2 w g)).toNat = n) (hn : n < 2 ^ 32) :
    (multiReductionI .add [0] S1024 v 0#32 reduces_S32x1024_S1024 rfl (ix1 g)).toNat = n := by
  have e : ∑ i ∈ Finset.univ.filter (fun i => reduces_S32x1024_S1024.drop i = ix1 g), (v i).toNat = n :=
    (Shape.Reduces.sum_fiber_r2_a0 reduces_S32x1024_S1024 (ix1 g) fun i => (v i).toNat).trans h
  rw [WordSum.toNat_multiReductionI_add v _ rfl _ (by rw [e]; exact hn), e]

/-! ## The finish, in parts -/

/-- The counts by bin and lane as a row of floats. -/
def laneRow (v : Vec Ideal S32x1024 .i32) : FVec Ideal S1x1024 .f32 :=
  sitofp .f32 (shapeCast S1x1024 (multiReductionI .add [0] S1024 (shapeCast S32x1024 v shapeCasts_S32x1024_S32x1024) 0#32
    reduces_S32x1024_S1024 rfl) shapeCasts_S1024_S1x1024)

/-- The matrix that gathers a bin's 16 lanes. -/
def grp : FVec Ideal S1024x64 .f32 :=
  sitofp .f32 (extui 32 (cmpi .eq (shrui (iota .tc S1024x64 32 [0] iota_S1024x64_d0_w32) (broadcast S1024x64 4#32))
    (iota .tc S1024x64 32 [1] iota_S1024x64_d1_w32)) natLt_1_32)

/-- The counts by bin. -/
def binRow (v : Vec Ideal S32x1024 .i32) : FVec Ideal S1x64 .f32 :=
  matmul (F := Ideal) dot_S1x1024_S1024x64_S1x64_1_0_0_1_n_n none (laneRow v) grp (constant S1x64 .f32 0x00000000#32)

/-- The sum of a row of 64. -/
def tot (x : FVec Ideal S1x64 .f32) : EReal :=
  extractAt ![0, 0, 0] (shapeCast S1x1x1 (multiReduction (F := Ideal) .add [1, 2] S1 (shapeCast S1x1x64 x shapeCasts_S1x64_S1x1x64)
    0x00000000#32 reduces_S1x1x64_S1 (.inl rfl) rfl) shapeCasts_S1_S1x1x1) inpos_S1x1x1_p0_0_0

theorem pay_eq (v : Vec Ideal S32x1024 .i32) (i : S1x1.Idx) :
    k1_pay1 v i = Ideal.ofBits .f32 0x00000000#32 - tot fun j => tm (binRow v j) (tot (binRow v)) := by
  have hp : ∀ j, tm (binRow v j) (tot (binRow v)) = mulf (divf (binRow v) (broadcast S1x64 (tot (binRow v))))
      (mulf (log (select (cmpf .ogt (divf (binRow v) (broadcast S1x64 (tot (binRow v))))
        (broadcast S1x64 (Scalar.ofBits (F := Ideal) .f32 0x00000000#32))) (divf (binRow v) (broadcast S1x64 (tot (binRow v))))
        (broadcast S1x64 (Scalar.ofBits (F := Ideal) .f32 0x3F800000#32)))) (broadcast S1x64 (Scalar.ofBits (F := Ideal) .f32 0x3FB8AA3B#32))) j :=
    fun _ => rfl
  simp only [hp]
  rfl

theorem tot_eq (x : FVec Ideal S1x64 .f32) : tot x = ∑ k : Fin 64, x (ix2 0 k) := by
  have e : tot x = ∑ i : S1x1x64.Idx, shapeCast S1x1x64 x shapeCasts_S1x64_S1x1x64 i :=
    Ideal.multiReduction_add_total _ 0x00000000#32 reduces_S1x1x64_S1 (by decide) (.inl rfl) rfl _
  rw [e]
  have e2 : ∑ i : S1x1x64.Idx, shapeCast S1x1x64 x shapeCasts_S1x64_S1x1x64 i = ∑ j : S1x64.Idx, x j :=
    Equiv.sum_comp (Shape.reshapeEquiv shapeCasts_S1x64_S1x1x64) x
  rw [e2]
  exact (sum_idx2 x).trans (Fin.sum_univ_one _)

theorem laneRow_eq (f : Vec Ideal S33554432 .f32) (g : Fin 1024) : laneRow (outF f) (ix2 0 g) = E (col f g.val) := by
  have e : shapeCast S1x1024 (multiReductionI .add [0] S1024 (shapeCast S32x1024 (outF f) shapeCasts_S32x1024_S32x1024) 0#32
    reduces_S32x1024_S1024 rfl) shapeCasts_S1024_S1x1024 (ix2 0 g)
      = multiReductionI .add [0] S1024 (outF f) 0#32 reduces_S32x1024_S1024 rfl (ix1 g) := by
    rw [shapeCast_self, shapeCast_a_1a_apply]
  have h := colsum_toNat (outF f) g (col f g.val) (sum_rows f g) (lt_of_le_of_lt (col_le f _) (by norm_num))
  show FloatOps.sitofp (F := Ideal) .f32 _ = _
  rw [e]
  exact sitofp_word _ _ h (lt_of_le_of_lt (col_le f _) (by norm_num))

theorem grp_eq (g : Fin 1024) (k : Fin 64) : grp (ix2 g k) = E (if g.val / 16 = k.val then 1 else 0) := by
  have hg := g.isLt
  have hk := k.isLt
  have e : BitVec.setWidth 32 (IntOp.cmpi .eq (IntOp.shrui .vector (BitVec.ofNat 32 g.val) 4#32) (BitVec.ofNat 32 k.val))
      = if g.val / 16 = k.val then 1#32 else 0#32 := by
    have hs : IntOp.shrui .vector (BitVec.ofNat 32 g.val) 4#32 = BitVec.ofNat 32 (g.val / 16) := by
      apply BitVec.eq_of_toNat_eq
      simp [IntOp.shrui, Nat.shiftRight_eq_div_pow]
      omega
    rw [hs]
    by_cases h : g.val / 16 = k.val
    · rw [if_pos h, h]; simp [IntOp.cmpi]
    · have : BitVec.ofNat 32 (g.val / 16) ≠ BitVec.ofNat 32 k.val := fun hh => h (by
        have := congrArg BitVec.toNat hh
        simp only [BitVec.toNat_ofNat] at this
        omega)
      rw [if_neg h];
      show BitVec.setWidth 32 (BitVec.ofBool (_ == _)) = 0#32
      rw [beq_eq_false_iff_ne.2 this]; rfl
  have i0 : iota .tc S1024x64 32 [0] iota_S1024x64_d0_w32 (ix2 g k) = BitVec.ofNat 32 g.val := by
    show BitVec.ofNat 32 (0 * 1024 + g.val) = _
    rw [Nat.zero_mul, Nat.zero_add]
  have i1 : iota .tc S1024x64 32 [1] iota_S1024x64_d1_w32 (ix2 g k) = BitVec.ofNat 32 k.val := by
    show BitVec.ofNat 32 (0 * 64 + k.val) = _
    rw [Nat.zero_mul, Nat.zero_add]
  show FloatOps.sitofp (F := Ideal) .f32 (BitVec.setWidth 32 (IntOp.cmpi .eq (IntOp.shrui .vector
    (iota .tc S1024x64 32 [0] iota_S1024x64_d0_w32 (ix2 g k)) 4#32) (iota .tc S1024x64 32 [1] iota_S1024x64_d1_w32 (ix2 g k)))) = _
  rw [i0, i1, e]
  refine sitofp_word _ _ ?_ (by split_ifs <;> norm_num)
  split_ifs <;> rfl

theorem binRow_eq (f : Vec Ideal S33554432 .f32) (k : Fin 64) : binRow (outF f) (ix2 0 k) = E (ctN (bN f) 33554432 k.val) := by
  have e : binRow (outF f) (ix2 0 k) = Ideal.ofBits .f32 0x00000000#32 + ∑ g : Fin 1024, laneRow (outF f) (ix2 0 g) * grp (ix2 g k) :=
    Ideal.matmul_plain_apply none (laneRow (outF f)) grp (constant S1x64 .f32 0x00000000#32) 0 k
  rw [e, Ideal.ofBits_zero_f32, zero_add]
  simp only [laneRow_eq, grp_eq, E_mul]
  rw [E_sum, Fin.sum_univ_eq_sum_range (fun g => col f g * if g / 16 = k.val then 1 else 0) 1024]
  exact congrArg E (sum_lanes (bN f) (bN_lt f) 33554432 k.val)

/-- The entropy of the 64 bins, as the TensorCore leaves it. -/
theorem finish_eq (f : Vec Ideal S33554432 .f32) (i : S1x1.Idx) :
    k1_pay1 (outF f) i
      = Ideal.ofBits .f32 0x00000000#32 - ∑ k ∈ range 64, tm (E (ctN (bN f) 33554432 k)) (E 33554432) := by
  have t : tot (binRow (outF f)) = E 33554432 := by
    rw [tot_eq]
    simp only [binRow_eq]
    rw [E_sum, Fin.sum_univ_eq_sum_range (fun k => ctN (bN f) 33554432 k) 64, sum_bins (bN f) 64 (bN_lt f) 33554432]
  rw [pay_eq, t, tot_eq]
  simp only [binRow_eq]
  rw [Fin.sum_univ_eq_sum_range (fun k => tm (E (ctN (bN f) 33554432 k)) (E 33554432)) 64]

end Cert.Proof.K

end
-- ==== Proof.RefValue.lean ====
/-
  What the reference computes, over the extended reals: its scatter counts the elements of each of the 2048 bins, and the entropy
  is taken of those counts.
-/
module

public import proofs.«01_k».proof.Proof.Finish
public import proofs.«01_k».proof.Proof.Gen.ReferenceIdeal
public import proofs.«01_k».proof.Proof.Gen.ReferenceIdeal.Run
public import Idealize.ShloMosaic.Lib.Routing.Ops
public import Idealize.ShloMosaic.Lib.Routing.OpsPair

@[expose] public section

noncomputable section

namespace Cert.Proof.R

open Cert.ReferenceIdeal Cert.ReferenceIdeal.Gen Idealize.ShloMosaic.ValueIdx Finset
open Idealize.ShloMosaic hiding ix0 ix1 ix2 ix3 sum_idx1 sum_idx2 sum_idx3
open Idealize.ShloMosaic.Routing (shape1 shape2)
open Cert.Proof.K (E tm ctN)
open scoped BigOperators

/-! ## The scatter counts -/

section Scatter
variable {M N : ℕ} (d : ScatterDims (shape1 M) (shape2 N 1) (shape1 N)) (hiw : d.insertedWindowDims = [0])
  (hsd : d.scatterDimsToOperandDims = [0]) (hivd : d.indexVectorDim = 1) (idx : IVec (shape2 N 1) 32)
include hiw hsd hivd

/-- Update `i` of a scatter of `N` scalars into `M` bins lands in bin `x` exactly when its index word is `x`. -/
theorem lands (i : Fin N) (x : Fin M) :
    d.resultIdx? (ix1 i) idx = some (ix1 x) ↔ (idx (ix2 i (0 : Fin 1))).toInt = (x.val : Int) := by
  have mem : (0 : Fin 1) ∈ d.scatterDimsToOperandDims := hsd ▸ List.mem_singleton.2 rfl
  have w0 : d.window (ix1 i) 0 = 0 := by
    unfold ScatterDims.window
    exact dif_neg fun h => (of_decide_eq_true (List.mem_filter.1 h).2) (by rw [hiw]; exact List.mem_singleton.2 rfl)
  have at0 : d.siIdx (ix1 i) ⟨d.scatterDimsToOperandDims.idxOf 0, List.idxOf_lt_length_iff.2 mem⟩ = ix2 i (0 : Fin 1) := by
    have one : ∀ X : Fin 1, (ix1 i X).val = i.val := fun X => by rw [Subsingleton.elim X 0]
    funext b
    refine Fin.ext ?_
    match b with
    | ⟨0, _⟩ =>
      unfold ScatterDims.siIdx
      rw [dif_neg (by rw [hivd]; exact Nat.zero_ne_one)]
      unfold ScatterDims.siCoord
      simp only [Fin.val_cast]
      exact one _
    | ⟨1, _⟩ =>
      unfold ScatterDims.siIdx
      rw [dif_pos (by rw [hivd])]
      show List.idxOf (0 : Fin 1) d.scatterDimsToOperandDims = 0
      rw [hsd]; rfl
  rw [Routing.resultIdx?_ix1, w0]
  unfold ScatterDims.start
  rw [dif_pos mem, at0, Nat.cast_zero, Int.add_zero]

/-- Adding one at every index to zeros counts the indices: bin `x` holds how many of the `N` are `x`. -/
theorem scatter_ones (x0 : IVec (shape1 M) 32) (h0 : ∀ j, x0 j = 0#32) (upd : IVec (shape1 N) 32) (h1 : ∀ j, upd j = 1#32)
    (b : ℕ → ℕ) (hb : ∀ i : Fin N, (idx (ix2 i (0 : Fin 1))).toInt = (b i.val : Int)) (x : Fin M) :
    Host.scatter d IntOp.addi x0 idx upd (ix1 x) = BitVec.ofNat 32 (ctN b N x.val) := by
  have count : Host.scatter d IntOp.addi x0 idx upd (ix1 x)
      = BitVec.ofNat 32 (0 + (List.finRange (shape1 N).numel).countP fun n => decide (b n.val = x.val)) := by
    unfold Host.scatter
    refine Routing.foldl_count _ (ix1 x) _ (fun r n => ?_) _ x0 0 (h0 _)
    have key := lands d hiw hsd hivd idx (n.cast (Routing.numel1 N)) x
    rw [hb] at key
    have key' : d.resultIdx? (ix1 (n.cast (Routing.numel1 N))) idx = some (ix1 x) ↔ b n.val = x.val := key.trans Int.natCast_inj
    rw [Routing.symm1]
    generalize d.resultIdx? (ix1 (n.cast (Routing.numel1 N))) idx = o at key' ⊢
    by_cases hx : b n.val = x.val
    · rw [key'.2 hx]; simp [hx, h1]
    · rw [if_neg (by simp [hx])]
      cases o with
      | none => rfl
      | some k => exact if_neg fun e => hx (key'.1 (congrArg some e.symm))
  rw [count, Nat.zero_add, Routing.countP_finRange _ (fun i => b i = x.val), Routing.numel1, Nat.count_eq_card_filter_range, card_filter]
  rfl

end Scatter

/-! ## The reference, in parts -/

/-- A word clipped between 0 and 2047, counted from the end where negative: an element's bin. -/
def idxW (x : Ideal .f32) : BitVec 32 :=
  Scalar.select (IntOp.cmpi .slt (IntOp.maxsi 0#32 (IntOp.minsi 2047#32 (IntOp.maxsi 0#32 (IntOp.addi
      (FloatOps.fptosi 32 (FloatOps.hostUnary (F := Ideal) .roundeven x)) 1024#32)))) 0#32)
    (IntOp.addi (IntOp.maxsi 0#32 (IntOp.minsi 2047#32 (IntOp.maxsi 0#32 (IntOp.addi
      (FloatOps.fptosi 32 (FloatOps.hostUnary (F := Ideal) .roundeven x)) 1024#32)))) 2048#32)
    (IntOp.maxsi 0#32 (IntOp.minsi 2047#32 (IntOp.maxsi 0#32 (IntOp.addi
      (FloatOps.fptosi 32 (FloatOps.hostUnary (F := Ideal) .roundeven x)) 1024#32))))

/-- The counts of the 2048 bins. -/
def counts (x : Vec Ideal S33554432 .f32) : IVec S2048 32 :=
  Host.scatter scatter_S2048_S33554432x1_S33554432_n_0_0_1 IntOp.addi (broadcastInDim S2048 ![] bcast_S_S2048 (constantI S_ 32 0#32))
    (broadcastInDim S33554432x1 ![0] bcast_S33554432_S33554432x1_0 fun i => idxW (x i))
    (broadcastInDim S33554432 ![] bcast_S_S33554432 (constantI S_ 32 1#32))

/-- The entropy of the counts. -/
def entropy (n : IVec S2048 32) : FVec Ideal S_ .f32 :=
  Host.negf (Host.reduceAdd (F := Ideal) (fun k => tm (FloatOps.sitofp (F := Ideal) .f32 (n k))
    (FloatOps.sitofp (F := Ideal) .f32 (Host.reduce IntOp.addi n (constantI S_ 32 0#32) reducesTo_S2048_S_d0 h_S_ ix0)))
    (constant S_ .f32 0x00000000#32) reducesTo_S2048_S_d0 h_S_)

/-- The same, operation by operation. -/
def entropyH (n : IVec S2048 32) : FVec Ideal S_ .f32 :=
  have p : FVec Ideal S2048 .f32 := Host.divf (sitofp .f32 n) (broadcastInDim S2048 ![] bcast_S_S2048
    (sitofp .f32 (Host.reduce IntOp.addi n (constantI S_ 32 0#32) reducesTo_S2048_S_d0 h_S_)))
  Host.negf (Host.reduceAdd (F := Ideal) (mulf p (mulf (Host.log (select
      (cmpf .ogt p (broadcastInDim S2048 ![] bcast_S_S2048 (constant S_ .f32 0x00000000#32))) p
      (broadcastInDim S2048 ![] bcast_S_S2048 (id (constant S_ .f32 0x3F800000#32)))))
    (broadcastInDim S2048 ![] bcast_S_S2048 (constant S_ .f32 0x3FB8AA3B#32))))
    (constant S_ .f32 0x00000000#32) reducesTo_S2048_S_d0 h_S_)

theorem entropyH_eq (n : IVec S2048 32) : entropyH n = entropy n := by
  have hT : broadcastInDim S2048 ![] bcast_S_S2048
      (sitofp (F := Ideal) .f32 (Host.reduce IntOp.addi n (constantI S_ 32 0#32) reducesTo_S2048_S_d0 h_S_))
      = fun _ => FloatOps.sitofp (F := Ideal) .f32 (Host.reduce IntOp.addi n (constantI S_ 32 0#32) reducesTo_S2048_S_d0 h_S_ ix0) :=
    funext fun j => Routing.bc0 _ _ j
  unfold entropyH entropy
  rw [hT]
  refine congrArg (fun v : FVec Ideal S2048 .f32 => Host.negf (Host.reduceAdd (F := Ideal) v
    (constant S_ .f32 0x00000000#32) reducesTo_S2048_S_d0 h_S_)) ?_
  funext k
  rfl

theorem res_eq (m : (ℓ : Loc nD τ sig) → Buf (Elt Ideal) ℓ) (c : Dev nD) :
    Value.res_main_v28 (F := Ideal) m c = entropy (counts (m ((c.tc : Thread nD τ).loc main_arg0))) := by
  have e1 : Value.res_main_v28 (F := Ideal) m c = entropyH (counts (m ((c.tc : Thread nD τ).loc main_arg0))) := by
    unfold Value.res_main_v28 counts
    rfl
  exact e1.trans (entropyH_eq _)

theorem sum_list (f : ℕ → ℕ) (n : ℕ) : ((List.range n).map f).sum = ∑ i ∈ range n, f i := by
  induction n with
  | zero => rfl
  | succ n ih => rw [List.range_succ, List.map_append, List.sum_append, ih, sum_range_succ]; simp

/-- The reference's value where element `i` has bin `b i`. -/
theorem entropy_eq (x : Vec Ideal S33554432 .f32) (b : ℕ → ℕ) (hb : ∀ i, b i < 2048)
    (h : ∀ i : Fin 33554432, (idxW (x (ix1 i))).toInt = (b i.val : Int)) :
    entropy (counts x) ix0
      = -(Ideal.ofBits .f32 0x00000000#32 + ∑ k ∈ range 2048, tm (E (ctN b 33554432 k)) (E 33554432)) := by
  have hc : ∀ k : Fin 2048, counts x (ix1 k) = BitVec.ofNat 32 (ctN b 33554432 k.val) := fun k =>
    scatter_ones scatter_S2048_S33554432x1_S33554432_n_0_0_1 rfl rfl rfl _ _ (fun _ => rfl) _ (fun _ => rfl) b (fun i => by
      rw [Routing.bcCol]; exact h i) k
  have hle : ∀ k, ctN b 33554432 k < 2 ^ 31 := fun k => lt_of_le_of_lt (K.ctN_le b 33554432 k) (by norm_num)
  have hT : Host.reduce IntOp.addi (counts x) (constantI S_ 32 0#32) reducesTo_S2048_S_d0 h_S_ ix0 = BitVec.ofNat 32 33554432 := by
    refine (Routing.reduce_sum (counts x) (ctN b 33554432) hc reducesTo_S2048_S_d0 h_S_).trans ?_
    rw [sum_list, K.sum_bins b 2048 hb]
  have eT : FloatOps.sitofp (F := Ideal) .f32 (BitVec.ofNat 32 33554432) = E 33554432 := K.sitofp_word _ _ rfl (by norm_num)
  have eK : ∀ k : Fin 2048, FloatOps.sitofp (F := Ideal) .f32 (counts x (ix1 k)) = E (ctN b 33554432 k.val) := fun k =>
    K.sitofp_word _ _ (by
      rw [hc, BitVec.toNat_ofNat]
      exact Nat.mod_eq_of_lt ((hle _).trans (by norm_num))) (hle _)
  have red := Ideal.hostReduceAdd_r1_a0 reducesTo_S2048_S_d0 (fun k => tm (FloatOps.sitofp (F := Ideal) .f32 (counts x k)) (E 33554432))
    (Ideal.ofBits .f32 0x00000000#32) ix0
  unfold entropy
  rw [hT, eT]
  show -(Ideal.hostReduceAdd _ _ _ _) = _
  refine congrArg (- ·) (red.trans ?_)
  refine congrArg (_ + ·) ?_
  rw [← Fin.sum_univ_eq_sum_range (fun k => tm (E (ctN b 33554432 k)) (E 33554432)) 2048]
  exact sum_congr rfl fun k _ => congrArg (tm · _) (eK k)

end Cert.Proof.R

end
-- ==== Proof.Equation.lean ====
/-
  Where the precondition holds the kernel's bins and the reference's are the same, 992 apart, and the two entropies are equal:
  the algebraic claim.
-/
module

public import proofs.«01_k».proof.Defs
public import proofs.«01_k».proof.Proof.Gen.Pre_in_bins
public import proofs.«01_k».proof.Proof.Launch
public import proofs.«01_k».proof.Proof.Frames
public import proofs.«01_k».proof.Proof.RefValue
public import Idealize.ShloMosaic.Lib.ReduceAll
public import Mathlib.Tactic.IntervalCases

@[expose] public section

noncomputable section

namespace Cert.Proof

open Idealize.ShloMosaic.ValueIdx Finset Idealize.SL.Sem
open Idealize.ShloMosaic hiding ix0 ix1 ix2 ix3 sum_idx1 sum_idx2 sum_idx3
open Cert.Proof.K (E tm ctN binW bN)
open scoped BigOperators

/-! ## One element's bin -/

/-- The element rounds to a whole number of the 64 that the kernel has bins for. -/
def InBins (x : Ideal .f32) : Prop :=
  ∃ z : ℤ, -32 ≤ z ∧ z ≤ 31 ∧ FloatOps.roundeven (F := Ideal) (φ := .f32) x = (((z : ℝ)) : EReal)

theorem ofBits_32 : Ideal.ofBits .f32 0x42000000#32 = ((32 : ℝ) : EReal) := by
  simp [Ideal.ofBits, Ideal.ieee, -EReal.coe_mul, -EReal.coe_neg]; norm_num

theorem ofBits_31 : Ideal.ofBits .f32 0x41F80000#32 = ((31 : ℝ) : EReal) := by
  simp [Ideal.ofBits, Ideal.ieee, -EReal.coe_mul, -EReal.coe_neg]; norm_num

theorem ofBits_m32 : Ideal.ofBits .f32 0xC2000000#32 = ((-32 : ℝ) : EReal) := by
  simp [Ideal.ofBits, Ideal.ieee, -EReal.coe_mul, -EReal.coe_neg]; norm_num

/-- A whole number of 32 bits converts to its word. -/
theorem fptosi_whole (z : ℤ) (h1 : -2147483648 ≤ z) (h2 : z ≤ 2147483647) :
    FloatOps.fptosi (F := Ideal) (φ := .f32) 32 (((z : ℝ)) : EReal) = BitVec.ofInt 32 z := by
  show BitVec.ofInt 32 (Ideal.toIntClamped (-(2 ^ (32 - 1) : ℕ)) ((2 ^ (32 - 1) : ℕ) - 1) (((z : ℝ)) : EReal)) = _
  rw [Ideal.toIntClamped_coe, Int.floor_intCast, Int.ceil_intCast, ite_self]
  congr 1
  norm_num
  omega

theorem binW_of (x : Ideal .f32) (z : ℤ) (h1 : -32 ≤ z) (h2 : z ≤ 31)
    (h : FloatOps.roundeven (F := Ideal) (φ := .f32) x = (((z : ℝ)) : EReal)) : (binW x).toNat = (z + 32).toNat := by
  have e : FloatOps.addf (F := Ideal) (φ := .f32) (FloatOps.roundeven (F := Ideal) (φ := .f32) x) (Scalar.ofBits .f32 0x42000000#32)
      = ((((z + 32 : ℤ)) : ℝ) : EReal) := by
    rw [h]
    show (((z : ℝ)) : EReal) + Ideal.ofBits .f32 0x42000000#32 = _
    rw [ofBits_32, ← EReal.coe_add]
    norm_num
  unfold K.binW
  rw [e, fptosi_whole _ (by omega) (by omega)]
  interval_cases z <;> rfl

theorem idxW_of (x : Ideal .f32) (z : ℤ) (h1 : -32 ≤ z) (h2 : z ≤ 31)
    (h : FloatOps.roundeven (F := Ideal) (φ := .f32) x = (((z : ℝ)) : EReal)) : (R.idxW x).toInt = z + 1024 := by
  have e : FloatOps.hostUnary (F := Ideal) (φ := .f32) .roundeven x = (((z : ℝ)) : EReal) := h
  unfold R.idxW
  rw [e, fptosi_whole _ (by omega) (by omega)]
  interval_cases z <;> rfl

/-- The reference's bin is the kernel's plus 992. -/
theorem idxW_eq (x : Ideal .f32) (h : InBins x) : (R.idxW x).toInt = (((binW x).toNat + 992 : ℕ) : ℤ) := by
  obtain ⟨z, h1, h2, hz⟩ := h
  rw [idxW_of x z h1 h2 hz, binW_of x z h1 h2 hz]
  omega

/-! ## The precondition, element by element -/

theorem inBins_of (x : Ideal .f32) (hlo : Ideal.ofBits .f32 0xC2000000#32 ≤ FloatOps.roundeven (F := Ideal) (φ := .f32) x)
    (hhi : FloatOps.roundeven (F := Ideal) (φ := .f32) x ≤ Ideal.ofBits .f32 0x41F80000#32) : InBins x := by
  rw [ofBits_m32] at hlo
  rw [ofBits_31] at hhi
  change EReal at x
  change _ ≤ Ideal.liftRound Ideal.roundHalfEven x at hlo
  change Ideal.liftRound Ideal.roundHalfEven x ≤ _ at hhi
  induction x using EReal.rec with
  | bot => exact absurd hlo (by simp)
  | top => exact absurd hhi (by simp)
  | coe r =>
    rw [Ideal.liftRound_coe, EReal.coe_le_coe_iff] at hlo hhi
    exact ⟨Ideal.roundHalfEven r, by exact_mod_cast hlo, by exact_mod_cast hhi, rfl⟩

theorem inBins_of_pre (x : Vec Ideal Cert.Pre_in_bins.S33554432 .f32) (h : Cert.Pre_in_bins.fn (F := Ideal) x = fun _ => 1#1)
    (i : Cert.Pre_in_bins.S33554432.Idx) : InBins (x i) := by
  haveI : Subsingleton Cert.Pre_in_bins.S_.Idx := ⟨fun a b => funext fun d => d.elim0⟩
  have e := Host.reduce_andi_all _ _ _ _ ix0 (congrFun h ix0) i
  change IntOp.andi (FloatOps.cmpf (F := Ideal) (φ := .f32) .oge (FloatOps.roundeven (F := Ideal) (φ := .f32) (x i)) (Ideal.ofBits .f32 0xC2000000#32))
    (FloatOps.cmpf (F := Ideal) (φ := .f32) .ole (FloatOps.roundeven (F := Ideal) (φ := .f32) (x i)) (Ideal.ofBits .f32 0x41F80000#32)) = 1#1 at e
  change BitVec.ofBool (decide (Ideal.ofBits .f32 0xC2000000#32 ≤ FloatOps.roundeven (F := Ideal) (φ := .f32) (x i)))
    &&& BitVec.ofBool (decide (FloatOps.roundeven (F := Ideal) (φ := .f32) (x i) ≤ Ideal.ofBits .f32 0x41F80000#32)) = 1#1 at e
  by_cases hlo : Ideal.ofBits .f32 0xC2000000#32 ≤ FloatOps.roundeven (F := Ideal) (φ := .f32) (x i)
  · by_cases hhi : FloatOps.roundeven (F := Ideal) (φ := .f32) (x i) ≤ Ideal.ofBits .f32 0x41F80000#32
    · exact inBins_of _ hlo hhi
    · rw [decide_eq_false hhi, decide_eq_true hlo] at e
      exact absurd e (by decide)
  · rw [decide_eq_false hlo] at e
    by_cases hhi : FloatOps.roundeven (F := Ideal) (φ := .f32) (x i) ≤ Ideal.ofBits .f32 0x41F80000#32
    · rw [decide_eq_true hhi] at e
      exact absurd e (by decide)
    · rw [decide_eq_false hhi] at e
      exact absurd e (by decide)

/-! ## The two entropies -/

/-- Of the 2048 bins only the 64 from 992 on count anything. -/
theorem sum_2048 (b : ℕ → ℕ) (hb : ∀ i, b i < 64) (N : ℕ) (hN : N ≠ 0) :
    ∑ k ∈ range 2048, tm (E (ctN (fun i => b i + 992) N k)) (E N) = ∑ k ∈ range 64, tm (E (ctN b N k)) (E N) := by
  have hz : ∀ k, (∀ i, b i + 992 ≠ k) → tm (E (ctN (fun i => b i + 992) N k)) (E N) = 0 := fun k hk => by
    rw [K.ctN_zero _ N k hk, K.E_zero, K.tm_zero (K.E_ne_zero hN)]
  rw [show 2048 = 992 + 64 + 992 from rfl, sum_range_add, sum_range_add,
    sum_eq_zero (s := range 992) fun k hk => hz k fun i => by have := mem_range.1 hk; omega,
    sum_eq_zero (s := range 992) fun k hk => hz _ fun i => by have := hb i; omega, zero_add, add_zero]
  exact sum_congr rfl fun k _ => by rw [K.ctN_shift]

theorem value_eq (f : Vec Ideal Cert.KernelIdeal.S33554432 .f32) (h : ∀ i, InBins (f i)) :
    R.entropy (R.counts f)
      = shapeCast Cert.KernelIdeal.S_ (Cert.KernelIdeal.Gen.k1_pay1 (K.outF f)) Cert.KernelIdeal.Gen.shapeCasts_S1x1_S_ := by
  have hi : ∀ i : Fin 33554432, (R.idxW (f (ix1 i))).toInt = ((bN f i.val + 992 : ℕ) : ℤ) := fun i => by
    have w : K.wordX i.val = ix1 i := by
      rw [ValueIdx.eq_ix1 (K.wordX i.val)]
      exact congrArg ix1 (Fin.ext (Nat.mod_eq_of_lt i.isLt))
    have e := idxW_eq _ (h (ix1 i))
    rw [← w] at e ⊢
    exact e
  have e := R.entropy_eq f (fun i => bN f i + 992) (fun i => by have := K.bN_lt f i; omega) hi
  rw [sum_2048 _ (K.bN_lt f) _ (by norm_num)] at e
  funext j
  rw [ValueIdx.eq_ix0 j]
  refine e.trans ?_
  unfold shapeCast
  rw [K.finish_eq, Ideal.ofBits_zero_f32, zero_add, zero_sub]

/-- The algebraic claim. -/
theorem algebraic_main :
    algebraic_KernelIdeal_ReferenceIdeal_pre_in_bins (hKernelIdeal := Cert.KernelIdeal.Gen.facts)
      (hReferenceIdeal := Cert.ReferenceIdeal.Gen.facts) (hPre_in_bins := Cert.Pre_in_bins.Gen.facts) := by
  intro m g m' g' hpre harg
  refine ⟨fun c => K.resV m c, ?_, ?_⟩
  · exact (θ_run _ _ _).mono (fun r h c => ⟨(h.1 c).2, (h.1 c).1⟩) (K.run_main (F := Ideal) m g)
  · refine (θ_run _ _ _).mono (fun r h c => ⟨(h c).1.trans ?_, (h c).2⟩) (Cert.ReferenceIdeal.Value.run (F := Ideal) m' g')
    rw [R.res_eq, harg c]
    exact value_eq _ fun i => inBins_of_pre _ (hpre c) i

end Cert.Proof

end
-- ==== Proof.lean ====
/-
  The proof of the certificate: the frames of the three programs, the idealization, and the value of the result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_bins
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_in_bins.Gen.facts,
  frame_Kernel, frame_KernelIdeal, fun m g _ => frame_KernelIdeal m g trivial, frame_ReferenceIdeal, fun m g _ => frame_ReferenceIdeal m g trivial, trivial, algebraic_main⟩

end Cert.Proof

end
